-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))).1 = (fun _ => 1#1)
    ∧ (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))).2.1 = (fun _ => 1#1)
    ∧ (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))).2.2 = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).1 = (fun _ => 1#1)
    ∧ (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.1 = (fun _ => 1#1)
    ∧ (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2 = (fun _ => 1#1)

def Pre_KernelIdeal_ids_and_variances [hPre_ids_and_variances : Cert.Pre_ids_and_variances.Facts] (m : (ℓ : Loc Cert.KernelIdeal.nD Cert.KernelIdeal.τ Cert.KernelIdeal.sig) → Buf (Elt Ideal) ℓ) : Prop :=
  ∀ c : Dev Cert.KernelIdeal.nD,
    (Cert.Pre_ids_and_variances.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).1 = (fun _ => 1#1)
    ∧ (Cert.Pre_ids_and_variances.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.1 = (fun _ => 1#1)
    ∧ (Cert.Pre_ids_and_variances.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.1 = (fun _ => 1#1)
    ∧ (Cert.Pre_ids_and_variances.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.1 = (fun _ => 1#1)
    ∧ (Cert.Pre_ids_and_variances.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2.1 = (fun _ => 1#1)
    ∧ (Cert.Pre_ids_and_variances.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_and_variances [hPre_ids_and_variances : Cert.Pre_ids_and_variances.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_and_variances.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).1 = (fun _ => 1#1)
    ∧ (Cert.Pre_ids_and_variances.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.1 = (fun _ => 1#1)
    ∧ (Cert.Pre_ids_and_variances.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.1 = (fun _ => 1#1)
    ∧ (Cert.Pre_ids_and_variances.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.1 = (fun _ => 1#1)
    ∧ (Cert.Pre_ids_and_variances.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.2.1 = (fun _ => 1#1)
    ∧ (Cert.Pre_ids_and_variances.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.2.2 = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_KernelIdeal_pre_ids_and_variances [hKernelIdeal : Cert.KernelIdeal.Facts] [hPre_ids_and_variances : Cert.Pre_ids_and_variances.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_and_variances m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def quiescent_ReferenceIdeal_pre_ids_and_variances [hReferenceIdeal : Cert.ReferenceIdeal.Facts] [hPre_ids_and_variances : Cert.Pre_ids_and_variances.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_and_variances m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def preserves_Kernel_KernelIdeal : Prop :=
  True

def algebraic_KernelIdeal_ReferenceIdeal_pre_ids_and_variances [hKernelIdeal : Cert.KernelIdeal.Facts] [hReferenceIdeal : Cert.ReferenceIdeal.Facts] [hPre_ids_and_variances : Cert.Pre_ids_and_variances.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_and_variances m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_ids_and_variances : Cert.Pre_ids_and_variances.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_ids_and_variances (hKernelIdeal := hKernelIdeal) (hPre_ids_and_variances := hPre_ids_and_variances)
    ∧ quiescent_ReferenceIdeal (hReferenceIdeal := hReferenceIdeal)
    ∧ quiescent_ReferenceIdeal_pre_ids_and_variances (hReferenceIdeal := hReferenceIdeal) (hPre_ids_and_variances := hPre_ids_and_variances)
    ∧ preserves_Kernel_KernelIdeal
    ∧ algebraic_KernelIdeal_ReferenceIdeal_pre_ids_and_variances (hKernelIdeal := hKernelIdeal) (hReferenceIdeal := hReferenceIdeal) (hPre_ids_and_variances := hPre_ids_and_variances)
-- ==== Pre_ids_and_variances.lean ====
abbrev S16384 : Shape := ⟨1, ![16384]⟩
abbrev S100000x128 : Shape := ⟨2, ![100000, 128]⟩
abbrev S7x4 : Shape := ⟨2, ![7, 4]⟩
abbrev S261x1024 : Shape := ⟨2, ![261, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S16384 : S_.BroadcastsInDim S16384 (![] : Fin 0 → Fin S16384.rank)
  bcast_S_S1024 : S_.BroadcastsInDim S1024 (![] : Fin 0 → Fin S1024.rank)
  bcast_S_S512 : S_.BroadcastsInDim S512 (![] : Fin 0 → Fin S512.rank)
  bcast_S_S256 : S_.BroadcastsInDim S256 (![] : Fin 0 → Fin S256.rank)

variable [Facts]

def fn_part1 {F : FTy → Type} [FloatOps F] (main_arg18 : FVec F S512 .f32) (main_arg24 : FVec F S256 .f32) (main_v4 : IVec S16384 1) (main_v9 : IVec S16384 1) (main_v14 : IVec S16384 1) (main_v16 : FVec F S1024 .f32) : IVec S16384 1 × IVec S16384 1 × IVec S16384 1 × IVec S1024 1 × IVec S512 1 × IVec S256 1 :=
  let main_cst_5 : FVec F S_ .f32 := constant S_ .f32 0x00000000#32
  let main_v17 : FVec F S1024 .f32 := broadcastInDim S1024 ![] bcast_S_S1024 main_cst_5
  let main_v18 : IVec S1024 1 := cmpf .ogt main_v16 main_v17
  let main_cst_6 : FVec F S_ .f32 := constant S_ .f32 0x3727C5AC#32
  let main_v19 : FVec F S512 .f32 := broadcastInDim S512 ![] bcast_S_S512 main_cst_6
  let main_v20 : FVec F S512 .f32 := addf main_arg18 main_v19
  let main_cst_7 : FVec F S_ .f32 := constant S_ .f32 0x00000000#32
  let main_v21 : FVec F S512 .f32 := broadcastInDim S512 ![] bcast_S_S512 main_cst_7
  let main_v22 : IVec S512 1 := cmpf .ogt main_v20 main_v21
  let main_cst_8 : FVec F S_ .f32 := constant S_ .f32 0x3727C5AC#32
  let main_v23 : FVec F S256 .f32 := broadcastInDim S256 ![] bcast_S_S256 main_cst_8
  let main_v24 : FVec F S256 .f32 := addf main_arg24 main_v23
  let main_cst_9 : FVec F S_ .f32 := constant S_ .f32 0x00000000#32
  let main_v25 : FVec F S256 .f32 := broadcastInDim S256 ![] bcast_S_S256 main_cst_9
  let main_v26 : IVec S256 1 := cmpf .ogt main_v24 main_v25
  (main_v4, main_v9, main_v14, main_v18, main_v22, main_v26)

def fn {F : FTy → Type} [FloatOps F] (main_arg0 : IVec S16384 32) (main_arg1 : IVec S16384 32) (main_arg2 : FVec F S16384 .f32) (main_arg3 : IVec S16384 32) (main_arg4 : FVec F S100000x128 .f32) (main_arg5 : FVec F S100000x128 .f32) (main_arg6 : FVec F S7x4 .f32) (main_arg7 : FVec F S261x1024 .f32) (main_arg8 : FVec F S1024 .f32) (main_arg9 : FVec F S1024 .f32) (main_arg10 : FVec F S1024 .f32) (main_arg11 : FVec F S1024 .f32) (main_arg12 : FVec F S1024 .f32) (main_arg13 : FVec F S1024x512 .f32) (main_arg14 : FVec F S512 .f32) (main_arg15 : FVec F S512 .f32) (main_arg16 : FVec F S512 .f32) (main_arg17 : FVec F S512 .f32) (main_arg18 : FVec F S512 .f32) (main_arg19 : FVec F S512x256 .f32) (main_arg20 : FVec F S256 .f32) (main_arg21 : FVec F S256 .f32) (main_arg22 : FVec F S256 .f32) (main_arg23 : FVec F S256 .f32) (main_arg24 : FVec F S256 .f32) (main_arg25 : FVec F S256x1 .f32) (main_arg26 : FVec F S1 .f32) : IVec S16384 1 × IVec S16384 1 × IVec S16384 1 × IVec S1024 1 × IVec S512 1 × IVec S256 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 100000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 32 := constantI S_ 32 0#32
  let main_v5 : IVec S16384 32 := broadcastInDim S16384 ![] bcast_S_S16384 main_c_1
  let main_v6 : IVec S16384 1 := cmpi .sge main_arg1 main_v5
  let main_c_2 : IVec S_ 32 := constantI S_ 32 100000#32
  let main_v7 : IVec S16384 32 := broadcastInDim S16384 ![] bcast_S_S16384 main_c_2
  let main_v8 : IVec S16384 1 := cmpi .slt main_arg1 main_v7
  let main_v9 : IVec S16384 1 := andi main_v6 main_v8
  let main_c_3 : IVec S_ 32 := constantI S_ 32 0#32
  let main_v10 : IVec S16384 32 := broadcastInDim S16384 ![] bcast_S_S16384 main_c_3
  let main_v11 : IVec S16384 1 := cmpi .sge main_arg3 main_v10
  let main_c_4 : IVec S_ 32 := constantI S_ 32 7#32
  let main_v12 : IVec S16384 32 := broadcastInDim S16384 ![] bcast_S_S16384 main_c_4
  let main_v13 : IVec S16384 1 := cmpi .slt main_arg3 main_v12
  let main_v14 : IVec S16384 1 := andi main_v11 main_v13
  let main_cst : FVec F S_ .f32 := constant S_ .f32 0x3727C5AC#32
  let main_v15 : FVec F S1024 .f32 := broadcastInDim S1024 ![] bcast_S_S1024 main_cst
  let main_v16 : FVec F S1024 .f32 := addf main_arg12 main_v15
  fn_part1 (F := F) main_arg18 main_arg24 main_v4 main_v9 main_v14 main_v16
-- ==== Pre_ids_in_range.lean ====
abbrev S16384 : Shape := ⟨1, ![16384]⟩
abbrev S100000x128 : Shape := ⟨2, ![100000, 128]⟩
abbrev S7x4 : Shape := ⟨2, ![7, 4]⟩
abbrev S261x1024 : Shape := ⟨2, ![261, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : IVec S16384 32) (main_arg1 : IVec S16384 32) (main_arg2 : FVec F S16384 .f32) (main_arg3 : IVec S16384 32) (main_arg4 : FVec F S100000x128 .f32) (main_arg5 : FVec F S100000x128 .f32) (main_arg6 : FVec F S7x4 .f32) (main_arg7 : FVec F S261x1024 .f32) (main_arg8 : FVec F S1024 .f32) (main_arg9 : FVec F S1024 .f32) (main_arg10 : FVec F S1024 .f32) (main_arg11 : FVec F S1024 .f32) (main_arg12 : FVec F S1024 .f32) (main_arg13 : FVec F S1024x512 .f32) (main_arg14 : FVec F S512 .f32) (main_arg15 : FVec F S512 .f32) (main_arg16 : FVec F S512 .f32) (main_arg17 : FVec F S512 .f32) (main_arg18 : FVec F S512 .f32) (main_arg19 : FVec F S512x256 .f32) (main_arg20 : FVec F S256 .f32) (main_arg21 : FVec F S256 .f32) (main_arg22 : FVec F S256 .f32) (main_arg23 : FVec F S256 .f32) (main_arg24 : FVec F S256 .f32) (main_arg25 : FVec F S256x1 .f32) (main_arg26 : FVec F S1 .f32) : IVec S16384 1 × IVec S16384 1 × IVec S16384 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 100000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 32 := constantI S_ 32 0#32
  let main_v5 : IVec S16384 32 := broadcastInDim S16384 ![] bcast_S_S16384 main_c_1
  let main_v6 : IVec S16384 1 := cmpi .sge main_arg1 main_v5
  let main_c_2 : IVec S_ 32 := constantI S_ 32 100000#32
  let main_v7 : IVec S16384 32 := broadcastInDim S16384 ![] bcast_S_S16384 main_c_2
  let main_v8 : IVec S16384 1 := cmpi .slt main_arg1 main_v7
  let main_v9 : IVec S16384 1 := andi main_v6 main_v8
  let main_c_3 : IVec S_ 32 := constantI S_ 32 0#32
  let main_v10 : IVec S16384 32 := broadcastInDim S16384 ![] bcast_S_S16384 main_c_3
  let main_v11 : IVec S16384 1 := cmpi .sge main_arg3 main_v10
  let main_c_4 : IVec S_ 32 := constantI S_ 32 7#32
  let main_v12 : IVec S16384 32 := broadcastInDim S16384 ![] bcast_S_S16384 main_c_4
  let main_v13 : IVec S16384 1 := cmpi .slt main_arg3 main_v12
  let main_v14 : IVec S16384 1 := andi main_v11 main_v13
  (main_v4, main_v9, main_v14)
-- ==== Kernel.lean ====
abbrev S16384 : Shape := ⟨1, ![16384]⟩
abbrev S100000x128 : Shape := ⟨2, ![100000, 128]⟩
abbrev S7x4 : Shape := ⟨2, ![7, 4]⟩
abbrev S261x1024 : Shape := ⟨2, ![261, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S128x128 : Shape := ⟨2, ![128, 128]⟩
abbrev S16384x128 : Shape := ⟨2, ![16384, 128]⟩
abbrev S4x128 : Shape := ⟨2, ![4, 128]⟩
abbrev S512x128 : Shape := ⟨2, ![512, 128]⟩
abbrev S_ : Shape := ⟨0, ![]⟩
abbrev S1x128 : Shape := ⟨2, ![1, 128]⟩
abbrev S128 : Shape := ⟨1, ![128]⟩
abbrev S128x1024 : Shape := ⟨2, ![128, 1024]⟩
abbrev S1x1024 : Shape := ⟨2, ![1, 1024]⟩
abbrev S4x1024 : Shape := ⟨2, ![4, 1024]⟩
abbrev S8x128 : Shape := ⟨2, ![8, 128]⟩
abbrev S2 : Shape := ⟨1, ![2]⟩
abbrev S16384x1 : Shape := ⟨2, ![16384, 1]⟩
abbrev S1x512 : Shape := ⟨2, ![1, 512]⟩
abbrev S1x256 : Shape := ⟨2, ![1, 256]⟩
abbrev S1x1 : Shape := ⟨2, ![1, 1]⟩
abbrev S512x1 : Shape := ⟨2, ![512, 1]⟩
abbrev S512x1024 : Shape := ⟨2, ![512, 1024]⟩
abbrev S8x1024 : Shape := ⟨2, ![8, 1024]⟩
abbrev S1x8 : Shape := ⟨2, ![1, 8]⟩
abbrev S512x8 : Shape := ⟨2, ![512, 8]⟩
abbrev S512x512 : Shape := ⟨2, ![512, 512]⟩

abbrev nBuf : Table → Nat
  | .hbm => 68
  | .local .tc .vmem => 34
  | .local .scVector .vmem => 2
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S16384, .f32⟩
  | .hbm, ⟨3, _⟩ => ⟨S16384, .i32⟩
  | .hbm, ⟨4, _⟩ => ⟨S100000x128, .f32⟩
  | .hbm, ⟨5, _⟩ => ⟨S100000x128, .f32⟩
  | .hbm, ⟨6, _⟩ => ⟨S7x4, .f32⟩
  | .hbm, ⟨7, _⟩ => ⟨S261x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024x512, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512x256, .f32⟩
  | .hbm, ⟨20, _⟩ => ⟨S256, .f32⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S256, .f32⟩
  | .hbm, ⟨25, _⟩ => ⟨S256x1, .f32⟩
  | .hbm, ⟨26, _⟩ => ⟨S1, .f32⟩
  | .hbm, ⟨27, _⟩ => ⟨S128x128, .i32⟩
  | .hbm, ⟨28, _⟩ => ⟨S128x128, .i32⟩
  | .hbm, ⟨29, _⟩ => ⟨S16384x128, .f32⟩
  | .hbm, ⟨30, _⟩ => ⟨S16384x128, .f32⟩
  | .hbm, ⟨31, _⟩ => ⟨S128x1024, .f32⟩
  | .hbm, ⟨32, _⟩ => ⟨S128x1024, .f32⟩
  | .hbm, ⟨33, _⟩ => ⟨S1x1024, .f32⟩
  | .hbm, ⟨34, _⟩ => ⟨S_, .f32⟩
  | .hbm, ⟨35, _⟩ => ⟨S128x1024, .f32⟩
  | .hbm, ⟨36, _⟩ => ⟨S4x1024, .f32⟩
  | .hbm, ⟨37, _⟩ => ⟨S_, .i32⟩
  | .hbm, ⟨38, _⟩ => ⟨S1, .i32⟩
  | .hbm, ⟨39, _⟩ => ⟨S128x1024, .f32⟩
  | .hbm, ⟨40, _⟩ => ⟨S_, .f32⟩
  | .hbm, ⟨41, _⟩ => ⟨S8x128, .f32⟩
  | .hbm, ⟨42, _⟩ => ⟨S_, .i32⟩
  | .hbm, ⟨43, _⟩ => ⟨S1, .i32⟩
  | .hbm, ⟨44, _⟩ => ⟨S_, .i32⟩
  | .hbm, ⟨45, _⟩ => ⟨S1, .i32⟩
  | .hbm, ⟨46, _⟩ => ⟨S2, .i32⟩
  | .hbm, ⟨47, _⟩ => ⟨S8x128, .f32⟩
  | .hbm, ⟨48, _⟩ => ⟨S16384x1, .f32⟩
  | .hbm, ⟨49, _⟩ => ⟨S16384x1, .i32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x512, .f32⟩
  | .hbm, ⟨56, _⟩ => ⟨S1x512, .f32⟩
  | .hbm, ⟨57, _⟩ => ⟨S1x512, .f32⟩
  | .hbm, ⟨58, _⟩ => ⟨S1x512, .f32⟩
  | .hbm, ⟨59, _⟩ => ⟨S1x512, .f32⟩
  | .hbm, ⟨60, _⟩ => ⟨S1x256, .f32⟩
  | .hbm, ⟨61, _⟩ => ⟨S1x256, .f32⟩
  | .hbm, ⟨62, _⟩ => ⟨S1x256, .f32⟩
  | .hbm, ⟨63, _⟩ => ⟨S1x256, .f32⟩
  | .hbm, ⟨64, _⟩ => ⟨S1x256, .f32⟩
  | .hbm, ⟨65, _⟩ => ⟨S1x256, .f32⟩
  | .hbm, ⟨66, _⟩ => ⟨S1x1, .f32⟩
  | .hbm, ⟨67, _⟩ => ⟨S16384x1, .f32⟩
  | .local .tc .vmem, ⟨0, _⟩ => ⟨S512x128, .f32⟩
  | .local .tc .vmem, ⟨1, _⟩ => ⟨S512x128, .f32⟩
  | .local .tc .vmem, ⟨2, _⟩ => ⟨S512x128, .f32⟩
  | .local .tc .vmem, ⟨3, _⟩ => ⟨S512x128, .f32⟩
  | .local .tc .vmem, ⟨4, _⟩ => ⟨S512x1, .f32⟩
  | .local .tc .vmem, ⟨5, _⟩ => ⟨S512x1, .f32⟩
  | .local .tc .vmem, ⟨6, _⟩ => ⟨S512x1, .i32⟩
  | .local .tc .vmem, ⟨7, _⟩ => ⟨S512x1, .i32⟩
  | .local .tc .vmem, ⟨8, _⟩ => ⟨S128x1024, .f32⟩
  | .local .tc .vmem, ⟨9, _⟩ => ⟨S128x1024, .f32⟩
  | .local .tc .vmem, ⟨10, _⟩ => ⟨S1x1024, .f32⟩
  | .local .tc .vmem, ⟨11, _⟩ => ⟨S8x128, .f32⟩
  | .local .tc .vmem, ⟨12, _⟩ => ⟨S128x1024, .f32⟩
  | .local .tc .vmem, ⟨13, _⟩ => ⟨S1x1024, .f32⟩
  | .local .tc .vmem, ⟨14, _⟩ => ⟨S1x1024, .f32⟩
  | .local .tc .vmem, ⟨15, _⟩ => ⟨S1x1024, .f32⟩
  | .local .tc .vmem, ⟨16, _⟩ => ⟨S1x1024, .f32⟩
  | .local .tc .vmem, ⟨17, _⟩ => ⟨S1x1024, .f32⟩
  | .local .tc .vmem, ⟨18, _⟩ => ⟨S1024x512, .f32⟩
  | .local .tc .vmem, ⟨19, _⟩ => ⟨S1x512, .f32⟩
  | .local .tc .vmem, ⟨20, _⟩ => ⟨S1x512, .f32⟩
  | .local .tc .vmem, ⟨21, _⟩ => ⟨S1x512, .f32⟩
  | .local .tc .vmem, ⟨22, _⟩ => ⟨S1x512, .f32⟩
  | .local .tc .vmem, ⟨23, _⟩ => ⟨S1x512, .f32⟩
  | .local .tc .vmem, ⟨24, _⟩ => ⟨S512x256, .f32⟩
  | .local .tc .vmem, ⟨25, _⟩ => ⟨S1x256, .f32⟩
  | .local .tc .vmem, ⟨26, _⟩ => ⟨S1x256, .f32⟩
  | .local .tc .vmem, ⟨27, _⟩ => ⟨S1x256, .f32⟩
  | .local .tc .vmem, ⟨28, _⟩ => ⟨S1x256, .f32⟩
  | .local .tc .vmem, ⟨29, _⟩ => ⟨S1x256, .f32⟩
  | .local .tc .vmem, ⟨30, _⟩ => ⟨S1x256, .f32⟩
  | .local .tc .vmem, ⟨31, _⟩ => ⟨S1x1, .f32⟩
  | .local .tc .vmem, ⟨32, _⟩ => ⟨S512x1, .f32⟩
  | .local .tc .vmem, ⟨33, _⟩ => ⟨S512x1, .f32⟩
  | .local .scVector .vmem, ⟨0, _⟩ => ⟨S4x128, .i32⟩
  | .local .scVector .vmem, ⟨1, _⟩ => ⟨S512x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 39 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTables nBuf rfl bufTy 4 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2_0 : Ref sig .tc := ⟨.hbm, 29, rfl⟩
abbrev main_v2_1 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_cst : Ref sig .tc := ⟨.hbm, 34, rfl⟩
abbrev main_v6 : Ref sig .tc := ⟨.hbm, 35, rfl⟩
abbrev main_v7 : Ref sig .tc := ⟨.hbm, 36, rfl⟩
abbrev main_c : Ref sig .tc := ⟨.hbm, 37, rfl⟩
abbrev main_v8 : Ref sig .tc := ⟨.hbm, 38, rfl⟩
abbrev main_v9 : Ref sig .tc := ⟨.hbm, 39, rfl⟩
abbrev main_cst_0 : Ref sig .tc := ⟨.hbm, 40, rfl⟩
abbrev main_v10 : Ref sig .tc := ⟨.hbm, 41, rfl⟩
abbrev main_c_1 : Ref sig .tc := ⟨.hbm, 42, rfl⟩
abbrev main_v11 : Ref sig .tc := ⟨.hbm, 43, rfl⟩
abbrev main_c_2 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_arg4_scv : Ref sig .scVector := ⟨.hbm, 4, rfl⟩
abbrev main_arg5_scv : Ref sig .scVector := ⟨.hbm, 5, rfl⟩
abbrev main_v0_scv : Ref sig .scVector := ⟨.hbm, 27, rfl⟩
abbrev main_v1_scv : Ref sig .scVector := ⟨.hbm, 28, rfl⟩
abbrev main_v2_0_scv : Ref sig .scVector := ⟨.hbm, 29, rfl⟩
abbrev main_v2_1_scv : Ref sig .scVector := ⟨.hbm, 30, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg9_0 : Ref sig .tc := ⟨.vmem, 13, rfl⟩
abbrev cc1_stg10_0 : Ref sig .tc := ⟨.vmem, 14, rfl⟩
abbrev cc1_stg11_0 : Ref sig .tc := ⟨.vmem, 15, rfl⟩
abbrev cc1_stg12_0 : Ref sig .tc := ⟨.vmem, 16, rfl⟩
abbrev cc1_stg13_0 : Ref sig .tc := ⟨.vmem, 17, rfl⟩
abbrev cc1_stg14_0 : Ref sig .tc := ⟨.vmem, 18, rfl⟩
abbrev cc1_stg15_0 : Ref sig .tc := ⟨.vmem, 19, rfl⟩
abbrev cc1_stg16_0 : Ref sig .tc := ⟨.vmem, 20, rfl⟩
abbrev cc1_stg17_0 : Ref sig .tc := ⟨.vmem, 21, rfl⟩
abbrev cc1_stg18_0 : Ref sig .tc := ⟨.vmem, 22, rfl⟩
abbrev cc1_stg19_0 : Ref sig .tc := ⟨.vmem, 23, rfl⟩
abbrev cc1_stg20_0 : Ref sig .tc := ⟨.vmem, 24, rfl⟩
abbrev cc1_stg21_0 : Ref sig .tc := ⟨.vmem, 25, rfl⟩
abbrev cc1_stg22_0 : Ref sig .tc := ⟨.vmem, 26, rfl⟩
abbrev cc1_stg23_0 : Ref sig .tc := ⟨.vmem, 27, rfl⟩
abbrev cc1_stg24_0 : Ref sig .tc := ⟨.vmem, 28, rfl⟩
abbrev cc1_stg25_0 : Ref sig .tc := ⟨.vmem, 29, rfl⟩
abbrev cc1_stg26_0 : Ref sig .tc := ⟨.vmem, 30, rfl⟩
abbrev cc1_stg27_0 : Ref sig .tc := ⟨.vmem, 31, rfl⟩
abbrev cc1_stg28_0 : Ref sig .tc := ⟨.vmem, 32, rfl⟩
abbrev cc1_stg28_1 : Ref sig .tc := ⟨.vmem, 33, rfl⟩
abbrev cc0_scratch0 : Ref sig .scVector := ⟨.vmem, 0, rfl⟩
abbrev cc0_scratch1 : Ref sig .scVector := ⟨.vmem, 1, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem12_0 : DmaSem sig := 21
abbrev cc1_sem13_0 : DmaSem sig := 22
abbrev cc1_sem14_0 : DmaSem sig := 23
abbrev cc1_sem15_0 : DmaSem sig := 24
abbrev cc1_sem16_0 : DmaSem sig := 25
abbrev cc1_sem17_0 : DmaSem sig := 26
abbrev cc1_sem18_0 : DmaSem sig := 27
abbrev cc1_sem19_0 : DmaSem sig := 28
abbrev cc1_sem20_0 : DmaSem sig := 29
abbrev cc1_sem21_0 : DmaSem sig := 30
abbrev cc1_sem22_0 : DmaSem sig := 31
abbrev cc1_sem23_0 : DmaSem sig := 32
abbrev cc1_sem24_0 : DmaSem sig := 33
abbrev cc1_sem25_0 : DmaSem sig := 34
abbrev cc1_sem26_0 : DmaSem sig := 35
abbrev cc1_sem27_0 : DmaSem sig := 36
abbrev cc1_sem28_0 : DmaSem sig := 37
abbrev cc1_sem28_1 : DmaSem sig := 38
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let c0_i32_90_r0 : BitVec 32 := 0#32
  ![v3.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_90_r1 : BitVec 32 := 0#32
  ![v2.toNat, 0]
abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_22 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_23 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_24 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_25 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_26 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_27 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_28 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S8x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1024x512 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x512 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x512 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x512 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x512 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S1x512 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S512x256 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S1x256 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]

abbrev stage1_22 : Fin 1 → Memref sig .tc .vmem S1x256 .f32 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))
abbrev reads1_22 : Fin grid1.rank → Bool := ![false]

abbrev stage1_23 : Fin 1 → Memref sig .tc .vmem S1x256 .f32 := fun | 0 => Memref.whole cc1_stg23_0 | ⟨_ + 1, h⟩ => absurd h (Nat.not_lt.2 (Nat.le_add_left _ _))
abbrev sem1_23 : Fin 1 → DmaSem sig := fun | 0 => cc1_sem23_0 | ⟨_ + 1, h⟩ => absurd h (Nat.not_lt.2 (Nat.le_add_left _ _))
abbrev reads1_23 : Fin grid1.rank → Bool := ![false]

abbrev stage1_24 : Fin 1 → Memref sig .tc .vmem S1x256 .f32 := fun | 0 => Memref.whole cc1_stg24_0 | ⟨_ + 1, h⟩ => absurd h (Nat.not_lt.2 (Nat.le_add_left _ _))
abbrev sem1_24 : Fin 1 → DmaSem sig := fun | 0 => cc1_sem24_0 | ⟨_ + 1, h⟩ => absurd h (Nat.not_lt.2 (Nat.le_add_left _ _))
abbrev reads1_24 : Fin grid1.rank → Bool := ![false]

abbrev stage1_25 : Fin 1 → Memref sig .tc .vmem S1x256 .f32 := fun | 0 => Memref.whole cc1_stg25_0 | ⟨_ + 1, h⟩ => absurd h (Nat.not_lt.2 (Nat.le_add_left _ _))
abbrev sem1_25 : Fin 1 → DmaSem sig := fun | 0 => cc1_sem25_0 | ⟨_ + 1, h⟩ => absurd h (Nat.not_lt.2 (Nat.le_add_left _ _))
abbrev reads1_25 : Fin grid1.rank → Bool := ![false]

abbrev stage1_26 : Fin 1 → Memref sig .tc .vmem S1x256 .f32 := fun | 0 => Memref.whole cc1_stg26_0 | ⟨_ + 1, h⟩ => absurd h (Nat.not_lt.2 (Nat.le_add_left _ _))
abbrev sem1_26 : Fin 1 → DmaSem sig := fun | 0 => cc1_sem26_0 | ⟨_ + 1, h⟩ => absurd h (Nat.not_lt.2 (Nat.le_add_left _ _))
abbrev reads1_26 : Fin grid1.rank → Bool := ![false]

abbrev stage1_27 : Fin 1 → Memref sig .tc .vmem S1x1 .f32 := fun | 0 => Memref.whole cc1_stg27_0 | ⟨_ + 1, h⟩ => absurd h (Nat.not_lt.2 (Nat.le_add_left _ _))
abbrev sem1_27 : Fin 1 → DmaSem sig := fun | 0 => cc1_sem27_0 | ⟨_ + 1, h⟩ => absurd h (Nat.not_lt.2 (Nat.le_add_left _ _))
abbrev reads1_27 : Fin grid1.rank → Bool := ![false]

abbrev stage1_28 : Fin 2 → Memref sig .tc .vmem S512x1 .f32 := fun | 0 => Memref.whole cc1_stg28_0 | 1 => Memref.whole cc1_stg28_1 | ⟨_ + 2, h⟩ => absurd h (Nat.not_lt.2 (Nat.le_add_left _ _))
abbrev sem1_28 : Fin 2 → DmaSem sig := fun | 0 => cc1_sem28_0 | 1 => cc1_sem28_1 | ⟨_ + 2, h⟩ => absurd h (Nat.not_lt.2 (Nat.le_add_left _ _))
abbrev reads1_28 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S100000x128 : Shape := ⟨2, ![100000, 128]⟩
abbrev S7x4 : Shape := ⟨2, ![7, 4]⟩
abbrev S261x1024 : Shape := ⟨2, ![261, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x128 : Shape := ⟨2, ![16384, 128]⟩
abbrev S16384x4 : Shape := ⟨2, ![16384, 4]⟩
abbrev S16384x261 : Shape := ⟨2, ![16384, 261]⟩
abbrev S16384x1024 : Shape := ⟨2, ![16384, 1024]⟩
abbrev S1x1024 : Shape := ⟨2, ![1, 1024]⟩
abbrev S16384x512 : Shape := ⟨2, ![16384, 512]⟩
abbrev S1x512 : Shape := ⟨2, ![1, 512]⟩
abbrev S16384x256 : Shape := ⟨2, ![16384, 256]⟩
abbrev S1x256 : Shape := ⟨2, ![1, 256]⟩

abbrev nBuf : Space → Nat
  | .hbm => 182
  | .vmem => 0
  | .smem => 0
  | _ => 0

abbrev hbmTy0_0 (i : Nat) : BufTy := match i % 128 with
  | 0 => ⟨S16384, .i32⟩
  | 1 => ⟨S16384, .i32⟩
  | 2 => ⟨S16384, .f32⟩
  | 3 => ⟨S16384, .i32⟩
  | 4 => ⟨S100000x128, .f32⟩
  | 5 => ⟨S100000x128, .f32⟩
  | 6 => ⟨S7x4, .f32⟩
  | 7 => ⟨S261x1024, .f32⟩
  | 8 => ⟨S1024, .f32⟩
  | 9 => ⟨S1024, .f32⟩
  | 10 => ⟨S1024, .f32⟩
  | 11 => ⟨S1024, .f32⟩
  | 12 => ⟨S1024, .f32⟩
  | 13 => ⟨S1024x512, .f32⟩
  | 14 => ⟨S512, .f32⟩
  | 15 => ⟨S512, .f32⟩
  | 16 => ⟨S512, .f32⟩
  | 17 => ⟨S512, .f32⟩
  | 18 => ⟨S512, .f32⟩
  | 19 => ⟨S512x256, .f32⟩
  | 20 => ⟨S256, .f32⟩
  | 21 => ⟨S256, .f32⟩
  | 22 => ⟨S256, .f32⟩
  | 23 => ⟨S256, .f32⟩
  | 24 => ⟨S256, .f32⟩
  | 25 => ⟨S256x1, .f32⟩
  | 26 => ⟨S1, .f32⟩
  | 27 => ⟨S_, .i32⟩
  | 28 => ⟨S16384, .i32⟩
  | 29 => ⟨S16384, .i1⟩
  | 30 => ⟨S_, .i32⟩
  | 31 => ⟨S16384, .i32⟩
  | 32 => ⟨S16384, .i32⟩
  | 33 => ⟨S16384, .i32⟩
  | 34 => ⟨S16384x1, .i32⟩
  | 35 => ⟨S1, .i32⟩
  | 36 => ⟨S_, .i32⟩
  | 37 => ⟨S16384x1, .i32⟩
  | 38 => ⟨S16384x1, .i1⟩
  | 39 => ⟨S1x1, .i32⟩
  | 40 => ⟨S16384x1, .i32⟩
  | 41 => ⟨S16384x1, .i1⟩
  | 42 => ⟨S16384x1, .i1⟩
  | 43 => ⟨S_, .i1⟩
  | 44 => ⟨S16384, .i1⟩
  | 45 => ⟨S16384x128, .f32⟩
  | 46 => ⟨S16384x128, .i1⟩
  | 47 => ⟨S_, .f32⟩
  | 48 => ⟨S16384x128, .f32⟩
  | 49 => ⟨S16384x128, .f32⟩
  | 50 => ⟨S_, .i32⟩
  | 51 => ⟨S16384, .i32⟩
  | 52 => ⟨S16384, .i1⟩
  | 53 => ⟨S_, .i32⟩
  | 54 => ⟨S16384, .i32⟩
  | 55 => ⟨S16384, .i32⟩
  | 56 => ⟨S16384, .i32⟩
  | 57 => ⟨S16384x1, .i32⟩
  | 58 => ⟨S1, .i32⟩
  | 59 => ⟨S_, .i32⟩
  | 60 => ⟨S16384x1, .i32⟩
  | 61 => ⟨S16384x1, .i1⟩
  | 62 => ⟨S1x1, .i32⟩
  | 63 => ⟨S16384x1, .i32⟩
  | 64 => ⟨S16384x1, .i1⟩
  | 65 => ⟨S16384x1, .i1⟩
  | 66 => ⟨S_, .i1⟩
  | 67 => ⟨S16384, .i1⟩
  | 68 => ⟨S16384x128, .f32⟩
  | 69 => ⟨S16384x128, .i1⟩
  | 70 => ⟨S_, .f32⟩
  | 71 => ⟨S16384x128, .f32⟩
  | 72 => ⟨S16384x128, .f32⟩
  | 73 => ⟨S_, .i32⟩
  | 74 => ⟨S16384, .i32⟩
  | 75 => ⟨S16384, .i1⟩
  | 76 => ⟨S_, .i32⟩
  | 77 => ⟨S16384, .i32⟩
  | 78 => ⟨S16384, .i32⟩
  | 79 => ⟨S16384, .i32⟩
  | 80 => ⟨S16384x1, .i32⟩
  | 81 => ⟨S1, .i32⟩
  | 82 => ⟨S_, .i32⟩
  | 83 => ⟨S16384x1, .i32⟩
  | 84 => ⟨S16384x1, .i1⟩
  | 85 => ⟨S1x1, .i32⟩
  | 86 => ⟨S16384x1, .i32⟩
  | 87 => ⟨S16384x1, .i1⟩
  | 88 => ⟨S16384x1, .i1⟩
  | 89 => ⟨S_, .i1⟩
  | 90 => ⟨S16384, .i1⟩
  | 91 => ⟨S16384x4, .f32⟩
  | 92 => ⟨S16384x4, .i1⟩
  | 93 => ⟨S_, .f32⟩
  | 94 => ⟨S16384x4, .f32⟩
  | 95 => ⟨S16384x4, .f32⟩
  | 96 => ⟨S16384x1, .f32⟩
  | 97 => ⟨S16384x261, .f32⟩
  | 98 => ⟨S16384x1024, .f32⟩
  | 99 => ⟨S1x1024, .f32⟩
  | 100 => ⟨S16384x1024, .f32⟩
  | 101 => ⟨S16384x1024, .f32⟩
  | 102 => ⟨S1x1024, .f32⟩
  | 103 => ⟨S16384x1024, .f32⟩
  | 104 => ⟨S16384x1024, .f32⟩
  | 105 => ⟨S1x1024, .f32⟩
  | 106 => ⟨S16384x1024, .f32⟩
  | 107 => ⟨S16384x1024, .f32⟩
  | 108 => ⟨S_, .f32⟩
  | 109 => ⟨S1024, .f32⟩
  | 110 => ⟨S1024, .f32⟩
  | 111 => ⟨S1024, .f32⟩
  | 112 => ⟨S1x1024, .f32⟩
  | 113 => ⟨S16384x1024, .f32⟩
  | 114 => ⟨S16384x1024, .f32⟩
  | 115 => ⟨S1x1024, .f32⟩
  | 116 => ⟨S16384x1024, .f32⟩
  | 117 => ⟨S16384x1024, .f32⟩
  | 118 => ⟨S_, .f32⟩
  | 119 => ⟨S16384x1024, .f32⟩
  | 120 => ⟨S16384x1024, .f32⟩
  | 121 => ⟨S16384x512, .f32⟩
  | 122 => ⟨S1x512, .f32⟩
  | 123 => ⟨S16384x512, .f32⟩
  | 124 => ⟨S16384x512, .f32⟩
  | 125 => ⟨S1x512, .f32⟩
  | 126 => ⟨S16384x512, .f32⟩
  | 127 => ⟨S16384x512, .f32⟩
  | _ => ⟨S16384, .i32⟩

abbrev hbmTy0_1 (i : Nat) : BufTy := match i % 128 with
  | 0 => ⟨S1x512, .f32⟩
  | 1 => ⟨S16384x512, .f32⟩
  | 2 => ⟨S16384x512, .f32⟩
  | 3 => ⟨S_, .f32⟩
  | 4 => ⟨S512, .f32⟩
  | 5 => ⟨S512, .f32⟩
  | 6 => ⟨S512, .f32⟩
  | 7 => ⟨S1x512, .f32⟩
  | 8 => ⟨S16384x512, .f32⟩
  | 9 => ⟨S16384x512, .f32⟩
  | 10 => ⟨S1x512, .f32⟩
  | 11 => ⟨S16384x512, .f32⟩
  | 12 => ⟨S16384x512, .f32⟩
  | 13 => ⟨S_, .f32⟩
  | 14 => ⟨S16384x512, .f32⟩
  | 15 => ⟨S16384x512, .f32⟩
  | 16 => ⟨S16384x256, .f32⟩
  | 17 => ⟨S1x256, .f32⟩
  | 18 => ⟨S16384x256, .f32⟩
  | 19 => ⟨S16384x256, .f32⟩
  | 20 => ⟨S1x256, .f32⟩
  | 21 => ⟨S16384x256, .f32⟩
  | 22 => ⟨S16384x256, .f32⟩
  | 23 => ⟨S1x256, .f32⟩
  | 24 => ⟨S16384x256, .f32⟩
  | 25 => ⟨S16384x256, .f32⟩
  | 26 => ⟨S_, .f32⟩
  | 27 => ⟨S256, .f32⟩
  | 28 => ⟨S256, .f32⟩
  | 29 => ⟨S256, .f32⟩
  | 30 => ⟨S1x256, .f32⟩
  | 31 => ⟨S16384x256, .f32⟩
  | 32 => ⟨S16384x256, .f32⟩
  | 33 => ⟨S1x256, .f32⟩
  | 34 => ⟨S16384x256, .f32⟩
  | 35 => ⟨S16384x256, .f32⟩
  | 36 => ⟨S_, .f32⟩
  | 37 => ⟨S16384x256, .f32⟩
  | 38 => ⟨S16384x256, .f32⟩
  | 39 => ⟨S16384x1, .f32⟩
  | 40 => ⟨S1x1, .f32⟩
  | 41 => ⟨S16384x1, .f32⟩
  | 42 => ⟨S16384x1, .f32⟩
  | 43 => ⟨S16384x1, .f32⟩
  | 44 => ⟨S16384x1, .f32⟩
  | 45 => ⟨S_, .f32⟩
  | 46 => ⟨S16384x1, .f32⟩
  | 47 => ⟨S16384x1, .f32⟩
  | 48 => ⟨S_, .f32⟩
  | 49 => ⟨S16384x1, .f32⟩
  | 50 => ⟨S16384x1, .f32⟩
  | 51 => ⟨S_, .f32⟩
  | 52 => ⟨S16384x1, .f32⟩
  | 53 => ⟨S16384x1, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v0 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v1 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_c_1 : Ref sig .tc := ⟨.hbm, 81, rfl⟩
abbrev main_call2_c_2 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_3 : Ref sig .tc := ⟨.hbm, 89, rfl⟩
abbrev main_call2_v12 : Ref sig .tc := ⟨.hbm, 90, rfl⟩
abbrev main_call2_v13 : Ref sig .tc := ⟨.hbm, 91, rfl⟩
abbrev main_call2_v14 : Ref sig .tc := ⟨.hbm, 92, rfl⟩
abbrev main_call2_cst : Ref sig .tc := ⟨.hbm, 93, rfl⟩
abbrev main_call2_v15 : Ref sig .tc := ⟨.hbm, 94, rfl⟩
abbrev main_v2 : Ref sig .tc := ⟨.hbm, 95, rfl⟩
abbrev main_v3 : Ref sig .tc := ⟨.hbm, 96, rfl⟩
abbrev main_v4 : Ref sig .tc := ⟨.hbm, 97, rfl⟩
abbrev main_v5 : Ref sig .tc := ⟨.hbm, 98, rfl⟩
abbrev main_v6 : Ref sig .tc := ⟨.hbm, 99, rfl⟩
abbrev main_v7 : Ref sig .tc := ⟨.hbm, 100, rfl⟩
abbrev main_v8 : Ref sig .tc := ⟨.hbm, 101, rfl⟩
abbrev main_v9 : Ref sig .tc := ⟨.hbm, 102, rfl⟩
abbrev main_v10 : Ref sig .tc := ⟨.hbm, 103, rfl⟩
abbrev main_v11 : Ref sig .tc := ⟨.hbm, 104, rfl⟩
abbrev main_v12 : Ref sig .tc := ⟨.hbm, 105, rfl⟩
abbrev main_v13 : Ref sig .tc := ⟨.hbm, 106, rfl⟩
abbrev main_v14 : Ref sig .tc := ⟨.hbm, 107, rfl⟩
abbrev main_cst : Ref sig .tc := ⟨.hbm, 108, rfl⟩
abbrev main_v15 : Ref sig .tc := ⟨.hbm, 109, rfl⟩
abbrev main_v16 : Ref sig .tc := ⟨.hbm, 110, rfl⟩
abbrev main_v17 : Ref sig .tc := ⟨.hbm, 111, rfl⟩
abbrev main_v18 : Ref sig .tc := ⟨.hbm, 112, rfl⟩
abbrev main_v19 : Ref sig .tc := ⟨.hbm, 113, rfl⟩
abbrev main_v20 : Ref sig .tc := ⟨.hbm, 114, rfl⟩
abbrev main_v21 : Ref sig .tc := ⟨.hbm, 115, rfl⟩
abbrev main_v22 : Ref sig .tc := ⟨.hbm, 116, rfl⟩
abbrev main_v23 : Ref sig .tc := ⟨.hbm, 117, rfl⟩
abbrev main_call3_cst : Ref sig .tc := ⟨.hbm, 118, rfl⟩
abbrev main_call3_v0 : Ref sig .tc := ⟨.hbm, 119, rfl⟩
abbrev main_v24 : Ref sig .tc := ⟨.hbm, 120, rfl⟩
abbrev main_v25 : Ref sig .tc := ⟨.hbm, 121, rfl⟩
abbrev main_v26 : Ref sig .tc := ⟨.hbm, 122, rfl⟩
abbrev main_v27 : Ref sig .tc := ⟨.hbm, 123, rfl⟩
abbrev main_v28 : Ref sig .tc := ⟨.hbm, 124, rfl⟩
abbrev main_v29 : Ref sig .tc := ⟨.hbm, 125, rfl⟩
abbrev main_v30 : Ref sig .tc := ⟨.hbm, 126, rfl⟩
abbrev main_v31 : Ref sig .tc := ⟨.hbm, 127, rfl⟩
abbrev main_v32 : Ref sig .tc := ⟨.hbm, 128, rfl⟩
abbrev main_v33 : Ref sig .tc := ⟨.hbm, 129, rfl⟩
abbrev main_v34 : Ref sig .tc := ⟨.hbm, 130, rfl⟩
abbrev main_cst_0 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_call4_cst : Ref sig .tc := ⟨.hbm, 141, rfl⟩
abbrev main_call4_v0 : Ref sig .tc := ⟨.hbm, 142, rfl⟩
abbrev main_v44 : Ref sig .tc := ⟨.hbm, 143, rfl⟩
abbrev main_v45 : Ref sig .tc := ⟨.hbm, 144, rfl⟩
abbrev main_v46 : Ref sig .tc := ⟨.hbm, 145, rfl⟩
abbrev main_v47 : Ref sig .tc := ⟨.hbm, 146, rfl⟩
abbrev main_v48 : Ref sig .tc := ⟨.hbm, 147, rfl⟩
abbrev main_v49 : Ref sig .tc := ⟨.hbm, 148, rfl⟩
abbrev main_v50 : Ref sig .tc := ⟨.hbm, 149, rfl⟩
abbrev main_v51 : Ref sig .tc := ⟨.hbm, 150, rfl⟩
abbrev main_v52 : Ref sig .tc := ⟨.hbm, 151, rfl⟩
abbrev main_v53 : Ref sig .tc := ⟨.hbm, 152, rfl⟩
abbrev main_v54 : Ref sig .tc := ⟨.hbm, 153, rfl⟩
abbrev main_cst_1 : Ref sig .tc := ⟨.hbm, 154, rfl⟩
abbrev main_v55 : Ref sig .tc := ⟨.hbm, 155, rfl⟩
abbrev main_v56 : Ref sig .tc := ⟨.hbm, 156, rfl⟩
abbrev main_v57 : Ref sig .tc := ⟨.hbm, 157, rfl⟩
abbrev main_v58 : Ref sig .tc := ⟨.hbm, 158, rfl⟩
abbrev main_v59 : Ref sig .tc := ⟨.hbm, 159, rfl⟩
abbrev main_v60 : Ref sig .tc := ⟨.hbm, 160, rfl⟩
abbrev main_v61 : Ref sig .tc := ⟨.hbm, 161, rfl⟩
abbrev main_v62 : Ref sig .tc := ⟨.hbm, 162, rfl⟩
abbrev main_v63 : Ref sig .tc := ⟨.hbm, 163, rfl⟩
abbrev main_call5_cst : Ref sig .tc := ⟨.hbm, 164, rfl⟩
abbrev main_call5_v0 : Ref sig .tc := ⟨.hbm, 165, rfl⟩
abbrev main_v64 : Ref sig .tc := ⟨.hbm, 166, rfl⟩
abbrev main_v65 : Ref sig .tc := ⟨.hbm, 167, rfl⟩
abbrev main_v66 : Ref sig .tc := ⟨.hbm, 168, rfl⟩
abbrev main_v67 : Ref sig .tc := ⟨.hbm, 169, rfl⟩
abbrev main_v68 : Ref sig .tc := ⟨.hbm, 170, rfl⟩
abbrev main_v69 : Ref sig .tc := ⟨.hbm, 171, rfl⟩
abbrev main_v70 : Ref sig .tc := ⟨.hbm, 172, rfl⟩
abbrev main_cst_2 : Ref sig .tc := ⟨.hbm, 173, rfl⟩
abbrev main_v71 : Ref sig .tc := ⟨.hbm, 174, rfl⟩
abbrev main_v72 : Ref sig .tc := ⟨.hbm, 175, rfl⟩
abbrev main_cst_3 : Ref sig .tc := ⟨.hbm, 176, rfl⟩
abbrev main_v73 : Ref sig .tc := ⟨.hbm, 177, rfl⟩
abbrev main_v74 : Ref sig .tc := ⟨.hbm, 178, rfl⟩
abbrev main_cst_4 : Ref sig .tc := ⟨.hbm, 179, rfl⟩
abbrev main_v75 : Ref sig .tc := ⟨.hbm, 180, rfl⟩
abbrev main_v76 : Ref sig .tc := ⟨.hbm, 181, rfl⟩

abbrev nD : Nat := 1
abbrev τ : Topo := Topo.v7x

variable {F : FTy → Type} [FloatOps F]
-- ==== Proof.Pre.lean ====
/-
  What the two preconditions say of the arguments, element by element: every id is a row of its table, every day a day of
  the week, and every variance positive once the batch norm's epsilon is added.
-/
module

public import proofs.«01_k».proof.Pre_ids_in_range
public import proofs.«01_k».proof.Pre_ids_and_variances
public import Idealize.ShloMosaic.PureOps.Ideal

@[expose] public section

noncomputable section

namespace Cert.Proof.Pre

open Idealize.ShloMosaic

/-- The broadcast that the first precondition names is one. -/
theorem factsRange : Cert.Pre_ids_in_range.Facts := ⟨by decide⟩
/-- The broadcasts that the second precondition names are ones. -/
theorem factsVar : Cert.Pre_ids_and_variances.Facts := ⟨by decide, by decide, by decide, by decide⟩

/-- A conjunction of two bits, each the truth of a proposition. -/
theorem and_bits (p q : Bool) : IntOp.andi (BitVec.ofBool p) (BitVec.ofBool q) = BitVec.ofBool (p && q) := by
  cases p <;> cases q <;> decide
/-- A bit that is one is the truth of something true. -/
theorem bit_one (p : Bool) : (BitVec.ofBool p = 1#1) ↔ p = true := by cases p <;> decide

/-- A signed number that is at least zero and below `100000` is, as a natural number, below it. -/
theorem below_table (a : BitVec 32) (h : IntOp.andi (IntOp.cmpi .sge a 0#32) (IntOp.cmpi .slt a 100000#32) = 1#1) : a.toNat < 100000 := by
  simp only [IntOp.cmpi, and_bits, bit_one, Bool.and_eq_true, BitVec.sle_eq_decide, BitVec.slt_eq_decide, decide_eq_true_eq,
    BitVec.toInt_eq_toNat_cond, BitVec.toNat_ofNat, Nat.reducePow, Nat.reduceMod] at h
  omega

/-- Likewise below seven. -/
theorem below_week (a : BitVec 32) (h : IntOp.andi (IntOp.cmpi .sge a 0#32) (IntOp.cmpi .slt a 7#32) = 1#1) : a.toNat < 7 := by
  simp only [IntOp.cmpi, and_bits, bit_one, Bool.and_eq_true, BitVec.sle_eq_decide, BitVec.slt_eq_decide, decide_eq_true_eq,
    BitVec.toInt_eq_toNat_cond, BitVec.toNat_ofNat, Nat.reducePow, Nat.reduceMod] at h
  omega

section Range
open Cert.Pre_ids_in_range
variable [Cert.Pre_ids_in_range.Facts] {F : FTy → Type} [FloatOps F]
  (a0 a1 : IVec S16384 32) (a2 : FVec F S16384 .f32) (a3 : IVec S16384 32) (a4 a5 : FVec F S100000x128 .f32) (a6 : FVec F S7x4 .f32)
  (a7 : FVec F S261x1024 .f32) (a8 a9 a10 a11 a12 : FVec F S1024 .f32) (a13 : FVec F S1024x512 .f32) (a14 a15 a16 a17 a18 : FVec F S512 .f32)
  (a19 : FVec F S512x256 .f32) (a20 a21 a22 a23 a24 : FVec F S256 .f32) (a25 : FVec F S256x1 .f32) (a26 : FVec F S1 .f32)

/-- The users' ids are rows of their table. -/
theorem users_in (h : (fn a0 a1 a2 a3 a4 a5 a6 a7 a8 a9 a10 a11 a12 a13 a14 a15 a16 a17 a18 a19 a20 a21 a22 a23 a24 a25 a26).1 = fun _ => 1#1)
    (j : S16384.Idx) : (a0 j).toNat < 100000 := below_table _ (congrFun h j)
/-- The items' ids are rows of theirs. -/
theorem items_in (h : (fn a0 a1 a2 a3 a4 a5 a6 a7 a8 a9 a10 a11 a12 a13 a14 a15 a16 a17 a18 a19 a20 a21 a22 a23 a24 a25 a26).2.1 = fun _ => 1#1)
    (j : S16384.Idx) : (a1 j).toNat < 100000 := below_table _ (congrFun h j)
end Range

section Variances
open Cert.Pre_ids_and_variances
variable [Cert.Pre_ids_and_variances.Facts]
section Generic
variable {F : FTy → Type} [FloatOps F]
  (a0 a1 : IVec S16384 32) (a2 : FVec F S16384 .f32) (a3 : IVec S16384 32) (a4 a5 : FVec F S100000x128 .f32) (a6 : FVec F S7x4 .f32)
  (a7 : FVec F S261x1024 .f32) (a8 a9 a10 a11 a12 : FVec F S1024 .f32) (a13 : FVec F S1024x512 .f32) (a14 a15 a16 a17 a18 : FVec F S512 .f32)
  (a19 : FVec F S512x256 .f32) (a20 a21 a22 a23 a24 : FVec F S256 .f32) (a25 : FVec F S256x1 .f32) (a26 : FVec F S1 .f32)

/-- The users' ids are rows of their table. -/
theorem users_in' (h : (fn a0 a1 a2 a3 a4 a5 a6 a7 a8 a9 a10 a11 a12 a13 a14 a15 a16 a17 a18 a19 a20 a21 a22 a23 a24 a25 a26).1 = fun _ => 1#1)
    (j : S16384.Idx) : (a0 j).toNat < 100000 := below_table _ (congrFun h j)
/-- The items' ids are rows of theirs. -/
theorem items_in' (h : (fn a0 a1 a2 a3 a4 a5 a6 a7 a8 a9 a10 a11 a12 a13 a14 a15 a16 a17 a18 a19 a20 a21 a22 a23 a24 a25 a26).2.1 = fun _ => 1#1)
    (j : S16384.Idx) : (a1 j).toNat < 100000 := below_table _ (congrFun h j)
/-- The days are days of the week. -/
theorem days_in' (h : (fn a0 a1 a2 a3 a4 a5 a6 a7 a8 a9 a10 a11 a12 a13 a14 a15 a16 a17 a18 a19 a20 a21 a22 a23 a24 a25 a26).2.2.1 = fun _ => 1#1)
    (j : S16384.Idx) : (a3 j).toNat < 7 := below_week _ (congrFun h j)
end Generic

variable (a0 a1 : IVec S16384 32) (a2 : FVec Ideal S16384 .f32) (a3 : IVec S16384 32) (a4 a5 : FVec Ideal S100000x128 .f32) (a6 : FVec Ideal S7x4 .f32)
  (a7 : FVec Ideal S261x1024 .f32) (a8 a9 a10 a11 a12 : FVec Ideal S1024 .f32) (a13 : FVec Ideal S1024x512 .f32) (a14 a15 a16 a17 a18 : FVec Ideal S512 .f32)
  (a19 : FVec Ideal S512x256 .f32) (a20 a21 a22 a23 a24 : FVec Ideal S256 .f32) (a25 : FVec Ideal S256x1 .f32) (a26 : FVec Ideal S1 .f32)

/-- The batch norm's epsilon, exactly. -/
abbrev eps : EReal := Ideal.ofBits .f32 0x3727C5AC#32

/-- A comparison that says `y` exceeds the pattern zero. -/
theorem pos_of_cmp (y : EReal) (h : Ideal.cmp .ogt y (Ideal.ofBits .f32 0x00000000#32) = 1#1) : 0 < y := by
  have z : (Ideal.ofBits .f32 0x00000000#32 : EReal) = 0 := by simp [Ideal.ofBits, Ideal.ieee]
  rw [z] at h
  simpa only [Ideal.cmp, bit_one, decide_eq_true_eq] using h

/-- The first layer's variances are positive with the epsilon added, -/
theorem var0_pos (h : (fn a0 a1 a2 a3 a4 a5 a6 a7 a8 a9 a10 a11 a12 a13 a14 a15 a16 a17 a18 a19 a20 a21 a22 a23 a24 a25 a26).2.2.2.1 = fun _ => 1#1)
    (j : S1024.Idx) : 0 < a12 j + eps := pos_of_cmp _ (congrFun h j)
/-- the second layer's, -/
theorem var1_pos (h : (fn a0 a1 a2 a3 a4 a5 a6 a7 a8 a9 a10 a11 a12 a13 a14 a15 a16 a17 a18 a19 a20 a21 a22 a23 a24 a25 a26).2.2.2.2.1 = fun _ => 1#1)
    (j : S512.Idx) : 0 < a18 j + eps := pos_of_cmp _ (congrFun h j)
/-- and the third's. -/
theorem var2_pos (h : (fn a0 a1 a2 a3 a4 a5 a6 a7 a8 a9 a10 a11 a12 a13 a14 a15 a16 a17 a18 a19 a20 a21 a22 a23 a24 a25 a26).2.2.2.2.2 = fun _ => 1#1)
    (j : S256.Idx) : 0 < a24 j + eps := pos_of_cmp _ (congrFun h j)
end Variances

end Cert.Proof.Pre

end
-- ==== Proof.KI.Setup.lean ====
/-
  The program as the SparseCore launch sees it: the configuration, the definitions table, the ghost algebra. One
  vector-subcore call runs on both SparseCores, one pipelined TensorCore call after it.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pipeline.FrameBody
public import Idealize.ShloMosaic.Lib.Claim
public import Idealize.ShloMosaic.Lib.Tactic
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Skeleton

@[expose] public section

noncomputable section

namespace Cert.Proof.KI

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.Sem
open Idealize.ShloMosaic.Rounds

variable {F : FTy → Type}

/-- The labels of the TensorCore's calls: the bodies and the one pipeline's entry. -/
abbrev ΛP : Labels := Pipeline.Sig Λ₀ (Fin 1) fun p => (pcfgs (F := F) p).Adm
/-- The SparseCore configuration of the program. -/
abbrev scK : SparseCore.Cfg τ sig (ΛP (F := F)) 1 := sc (F := F)
/-- The definitions below the SparseCore layer. -/
abbrev DP [FloatOps F] : Defs nD τ sig (Elt F) (ΛP (F := F)) := Pipeline.defs pcfgs defs₀
/-- No call recurses: the variants are empty below the pipeline, -/
abbrev 𝒱₀ : Variants := Variants.none
/-- and those of the pipeline's own loop above it. -/
abbrev 𝒱 : Variants := 𝒱₀.lift
/-- The bound at which the SparseCore bodies run. -/
abbrev v₀ : 𝒱.V := Sum.inl none

/-- The layout facts of the handshakes' semaphores: distinct, none scoped, no shared memory taken by a sequencer. -/
theorem facts : (scK (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds, -/
abbrev UH : Type := URounds (GSem nD τ sig) ℕ
/-- the pipeline's cells' rounds, -/
abbrev UP : Type := UR sig nD τ
/-- and the transfers' counters, side by side. -/
abbrev UU : Type := UH × (UP × Counters)

/-- The machine's algebra at these choices. -/
abbrev MM (F : FTy → Type) : Type := MT nD τ sig (HIx 1) (Elt F) ℕ UU ℕ

/-- Where the handshakes' rounds lie. -/
abbrev EH : Emb UH (MT nD τ sig (HIx 1) (Elt F) ℕ UU ℕ) := embL
/-- Where the pipeline's rounds lie. -/
abbrev EP : Emb UP (MT nD τ sig (HIx 1) (Elt F) ℕ UU ℕ) :=
  (Emb.inl : Emb UP (UP × Counters)).trans embR

end Cert.Proof.KI

end
-- ==== Proof.KI.Rows.lean ====
/-
  What the gather kernel computes, row by row: `gathered ids table`. Subcore `s` of SparseCore `c` is task `2 s + c` of
  thirty-two. The task's rows of the id arrays and of the results, the row scratch after the four streams, and that the
  scratch copied out is the task's rows of `gathered`.
-/
module

public import proofs.«01_k».proof.Proof.KI.Setup
public import Idealize.ShloMosaic.Lib.WritesUnit

@[expose] public section

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays -/

/-- The user ids, as 128 rows of 128, in device `d`'s memory. -/
abbrev uidLoc (d : Dev nD) : Loc nD τ sig := (T d : Thread nD τ).loc main_v0
/-- The item ids, as 128 rows of 128. -/
abbrev iidLoc (d : Dev nD) : Loc nD τ sig := (T d : Thread nD τ).loc main_v1
/-- The user table. -/
abbrev utLoc (d : Dev nD) : Loc nD τ sig := (T d : Thread nD τ).loc main_arg4
/-- The item table. -/
abbrev itLoc (d : Dev nD) : Loc nD τ sig := (T d : Thread nD τ).loc main_arg5
/-- The gathered user rows. -/
abbrev ueLoc (d : Dev nD) : Loc nD τ sig := (T d : Thread nD τ).loc main_v2_0
/-- The gathered item rows. -/
abbrev ieLoc (d : Dev nD) : Loc nD τ sig := (T d : Thread nD τ).loc main_v2_1

/-- The users' table as a task addresses it, -/
abbrev utV : Memref sig .scVector .hbm S100000x128 .f32 := Memref.whole main_arg4_scv
/-- the items' table, -/
abbrev itV : Memref sig .scVector .hbm S100000x128 .f32 := Memref.whole main_arg5_scv
/-- the users' ids, -/
abbrev uidV : Memref sig .scVector .hbm S128x128 .i32 := Memref.whole main_v0_scv
/-- the items' ids, -/
abbrev iidV : Memref sig .scVector .hbm S128x128 .i32 := Memref.whole main_v1_scv
/-- the users' gathered rows, -/
abbrev ueV : Memref sig .scVector .hbm S16384x128 .f32 := Memref.whole main_v2_0_scv
/-- the items' gathered rows, -/
abbrev ieV : Memref sig .scVector .hbm S16384x128 .f32 := Memref.whole main_v2_1_scv
/-- the task's scratch for ids, -/
abbrev sV : Memref sig .scVector .vmem S4x128 .i32 := Memref.whole cc0_scratch0
/-- and its scratch for rows. -/
abbrev rV : Memref sig .scVector .vmem S512x128 .f32 := Memref.whole cc0_scratch1

/-- The id rows divide into 32 equal parts, -/
theorem idDiv : 32 ∣ S128x128.size 0 := ⟨4, rfl⟩
/-- and so do the result rows. -/
theorem outDiv : 32 ∣ S16384x128.size 0 := ⟨512, rfl⟩
/-- Task `w`'s four rows of an id array. -/
abbrev idRect (w : Fin 32) : Rect S128x128 := Rect.part (s := S128x128) (a₀ := 0) idDiv w
/-- Task `w`'s 512 rows of a result. -/
abbrev outRect (w : Fin 32) : Rect S16384x128 := Rect.part (s := S16384x128) (a₀ := 0) outDiv w
/-- Task `w`'s share of a table: one of thirty-two pieces. -/
abbrev shr (w : Fin 32) : PosShare TreeShare := pieceOf fullShare 32 (by decide) w

/-- The id at position `n` of the array of 128 rows of 128. -/
def idAt (ids : S128x128.Idx → Elt F .i32) (n : Fin 16384) : BitVec 32 :=
  ids (fun a => match a with
    | ⟨0, _⟩ => (⟨n.val / 128, by have := n.isLt; omega⟩ : Fin 128)
    | ⟨1, _⟩ => (⟨n.val % 128, Nat.mod_lt _ (by decide)⟩ : Fin 128)
    | ⟨_ + 2, h⟩ => absurd h (Nat.not_lt.2 (Nat.le_add_left _ _)))

/-- Row `n` of the result: the table's row at id `n` (taken modulo the table's height, which an id in range is below). -/
def gathered (ids : S128x128.Idx → Elt F .i32) (tab : S100000x128.Idx → Elt F .f32) : S16384x128.Idx → Elt F .f32 :=
  fun j => tab (fun a => match a with
    | ⟨0, _⟩ => (⟨(idAt (F := F) ids (j 0)).toNat % 100000, Nat.mod_lt _ (by decide)⟩ : Fin 100000)
    | ⟨1, _⟩ => (j 1 : Fin 128)
    | ⟨_ + 2, h⟩ => absurd h (Nat.not_lt.2 (Nat.le_add_left _ _)))

variable (L : grid0.Coords)

/-- The task's SparseCore, -/
abbrev cV (L : grid0.Coords) : Fin τ.nSC := (L 0).castLE hcore0
/-- and its subcore. -/
abbrev jV (L : grid0.Coords) : Fin τ.nSub := (L 1).castLE hsub0
/-- The task's number. -/
def wid (L : grid0.Coords) : Fin 32 :=
  ⟨2 * (L 1).val + (L 0).val, by
    have h1 : (L 1).val < 16 := (L 1).isLt
    have h0 : (L 0).val < 2 := (L 0).isLt
    omega⟩

/-- The rectangle of id rows at the offset that the task computes, -/
abbrev idRectK (L : grid0.Coords) : Rect S128x128 := Rect.unit (s := S128x128) (k0_off1 L) S4x128.size (k0_off1_inb L)
/-- and that of result rows. -/
abbrev outRectK (L : grid0.Coords) : Rect S16384x128 := Rect.unit (s := S16384x128) (k0_off2 L) S512x128.size (k0_off2_inb L)

/-- The computed id rows are the task's part of the ids. -/
theorem idRectK_eq : idRectK L = idRect (wid L) := by
  unfold idRectK idRect Rect.part Rect.block
  congr 1 <;> funext a
  · rw [k0_off1_eq]
    match a with
    | 0 => simp [Shape.partIx, Shape.partSize, wid]; omega
    | 1 => simp [Shape.partIx, Shape.partSize]
  · match a with
    | 0 => simp [Shape.partSize]
    | 1 => simp [Shape.partSize]
/-- The computed result rows are the task's part of a result. -/
theorem outRectK_eq : outRectK L = outRect (wid L) := by
  unfold outRectK outRect Rect.part Rect.block
  congr 1 <;> funext a
  · rw [k0_off2_eq]
    match a with
    | 0 => simp [Shape.partIx, Shape.partSize, wid]; omega
    | 1 => simp [Shape.partIx, Shape.partSize]
  · match a with
    | 0 => simp [Shape.partSize]
    | 1 => simp [Shape.partSize]

/-- The users' four id rows as the task addresses them. -/
abbrev uidK (L : grid0.Coords) : Memref sig .scVector .hbm S4x128 .i32 := (uidV).slice (idRectK L) (fun _ => rfl)
/-- The items' id rows likewise, -/
abbrev iidK (L : grid0.Coords) : Memref sig .scVector .hbm S4x128 .i32 := (iidV).slice (idRectK L) (fun _ => rfl)
/-- the users' result rows, -/
abbrev ueK (L : grid0.Coords) : Memref sig .scVector .hbm S512x128 .f32 := (ueV).slice (outRectK L) (fun _ => rfl)
/-- and the items' result rows. -/
abbrev ieK (L : grid0.Coords) : Memref sig .scVector .hbm S512x128 .f32 := (ieV).slice (outRectK L) (fun _ => rfl)

/-- The list of 128 ids that stream `r` reads: row `r` of the id scratch. -/
abbrev listK (off : Fin 2 → ℕ) (h : ∀ a, off a + S1x128.size a ≤ S4x128.size a) : Memref sig .scVector .vmem S128 .i32 :=
  ((sV).slice (Rect.unit (s := S4x128) off S1x128.size h) (fun _ => rfl)).squeeze S128 squeezes_S1x128_S128

/-- An index of a matrix of shape `n × m`. -/
abbrev at2 {n m : ℕ} (a : Fin n) (b : Fin m) : (⟨2, ![n, m]⟩ : Shape).Idx := fun c => match c with
  | ⟨0, _⟩ => a
  | ⟨1, _⟩ => b
  | ⟨_ + 2, h⟩ => absurd h (Nat.not_lt.2 (Nat.le_add_left _ _))

/-- An index of a matrix is given by its two coordinates' values. -/
theorem at2_ext {n m : ℕ} {x y : (⟨2, ![n, m]⟩ : Shape).Idx} (h0 : (x 0).val = (y 0).val) (h1 : (x 1).val = (y 1).val) : x = y := by
  funext c
  match c with
  | ⟨0, _⟩ => exact Fin.ext h0
  | ⟨1, _⟩ => exact Fin.ext h1

/-- The id at row `r` and column `x` of the list that stream `r` reads. -/
theorem list_read (r : Fin 4) (off : Fin 2 → ℕ) (h : ∀ a, off a + S1x128.size a ≤ S4x128.size a) (ho : off = ![r.val, 0])
    (g : (sV).view.ty.Contents (Elt F)) (w : S4x128.Idx → Elt F .i32) (x : S128.Idx) :
    (listK off h).view.read (Elt F) (View.write (Elt F) (sV).view g w Finset.univ) x = w (at2 r (x 0 : Fin 128)) := by
  subst ho
  rw [show (listK ![r.val, 0] h).view.read (Elt F) (View.write (Elt F) (sV).view g w Finset.univ) x
    = (View.write (Elt F) (sV).view g w Finset.univ) ((listK ![r.val, 0] h).view.emb x) from (View.read_apply _ _).trans (cast_eq _ _)]
  rw [View.write_whole_univ]
  refine congrArg w ?_
  have e : Shape.reshapeEquiv squeezes_S1x128_S128.numel_eq x = (at2 (0 : Fin 1) (x 0 : Fin 128) : S1x128.Idx) :=
    Shape.reshapeEquiv_eq_of_rowMajor _ (by
      rw [show (S1x128.rowMajor (at2 (0 : Fin 1) (x 0 : Fin 128))).val = _ from Shape.rowMajor_val_two _,
        show (S128.rowMajor x).val = _ from Shape.rowMajor_val_one _]
      simp)
  show (Rect.unit (s := S4x128) ![r.val, 0] S1x128.size h).emb (Shape.reshapeEquiv squeezes_S1x128_S128.numel_eq x) = _
  rw [e]
  refine at2_ext ?_ ?_
  · show r.val + 1 * 0 = r.val; omega
  · show 0 + 1 * (x 0).val = (x 0).val; omega

/-- What stream `r` writes: at row `x 0` the table's row at the id in column `x 0` of the list's row `r`. -/
theorem stream_read (r : Fin 4) (off : Fin 2 → ℕ) (h : ∀ a, off a + S1x128.size a ≤ S4x128.size a) (ho : off = ![r.val, 0])
    (g : (sV).view.ty.Contents (Elt F)) (w : S4x128.Idx → Elt F .i32) (src tab : S100000x128.Idx → Elt F .f32) (hs : ∀ z, src z = tab z)
    (hn : S128.numel = S128x128.size gathers_S100000x128_S128x128.axis')
    (hin : ∀ x, ((listK off h).view.read (Elt F) (View.write (Elt F) (sV).view g w Finset.univ) x).toNat
      < S100000x128.size gathers_S100000x128_S128x128.axis) (x : S128x128.Idx) :
    SparseCore.gatherPayload (F := F) (e := .f32) gathers_S100000x128_S128x128 src
        (SparseCore.rows ((listK off h).view.read (Elt F) (View.write (Elt F) (sV).view g w Finset.univ)) hn hin) x
      = tab (at2 (⟨(w (at2 r (x 0 : Fin 128)) : BitVec 32).toNat % 100000, Nat.mod_lt _ (by decide)⟩ : Fin 100000) (x 1 : Fin 128)) := by
  unfold SparseCore.gatherPayload
  rw [hs]
  refine congrArg tab (at2_ext ?_ ?_)
  · have ea := Shape.Gathers.idx_axis gathers_S100000x128_S128x128
      (SparseCore.rows ((listK off h).view.read (Elt F) (View.write (Elt F) (sV).view g w Finset.univ)) hn hin) x
    refine (congrArg Fin.val ea).trans ?_
    show ((listK off h).view.read (Elt F) (View.write (Elt F) (sV).view g w Finset.univ)
      (S128.rowMajor.symm ((x gathers_S100000x128_S128x128.axis').cast hn.symm)) : BitVec 32).toNat = _
    have hx : S128.rowMajor.symm ((x gathers_S100000x128_S128x128.axis').cast hn.symm) = ((fun c => match c with | ⟨0, _⟩ => (x 0 : Fin 128)) : S128.Idx) := by
      rw [Equiv.symm_apply_eq]
      apply Fin.ext
      rw [show (S128.rowMajor ((fun c => match c with | ⟨0, _⟩ => (x 0 : Fin 128)) : S128.Idx)).val = _ from Shape.rowMajor_val_one _]
      rfl
    have hb := hin ((fun c => match c with | ⟨0, _⟩ => (x 0 : Fin 128)) : S128.Idx)
    rw [hx]
    rw [list_read r off h ho g w] at hb ⊢
    exact (Nat.mod_eq_of_lt hb).symm
  · exact Shape.Gathers.idx_of_ne gathers_S100000x128_S128x128 _ x 1 (by decide)

/-- The row scratch after four streams, whatever was written before them: block `r` of 128 rows is stream `r`'s. -/
theorem scratch_read (f : (rV).view.ty.Contents (Elt F)) (p : Fin 4 → S128x128.Idx → Elt F .f32) (q : S512x128.Idx → Elt F .f32)
    (hp : ∀ (r : Fin 4) (x : S128x128.Idx), p r x = q (at2 (⟨128 * r.val + (x 0).val, by
      have hx : (x 0).val < 128 := (x 0).isLt
      have := r.isLt; omega⟩ : Fin 512) (x 1 : Fin 128)))
    (L : List (View.Piece (Elt F) S512x128 .f32)) (y : S512x128.Idx) :
    (rV).view.read (Elt F) ((rV).view.writes (Elt F) f
      ((⟨Rect.unit (s := S512x128) ![384, 0] ![128, 128] inb_S512x128_S128x128_384_0, p 3⟩ : View.Piece (Elt F) S512x128 .f32)
        :: (⟨Rect.unit (s := S512x128) ![256, 0] ![128, 128] inb_S512x128_S128x128_256_0, p 2⟩ : View.Piece (Elt F) S512x128 .f32)
        :: (⟨Rect.unit (s := S512x128) ![128, 0] ![128, 128] inb_S512x128_S128x128_128_0, p 1⟩ : View.Piece (Elt F) S512x128 .f32)
        :: (⟨Rect.unit (s := S512x128) ![0, 0] ![128, 128] inb_S512x128_S128x128_0_0, p 0⟩ : View.Piece (Elt F) S512x128 .f32) :: L)) y = q y := by
  have hy0 : (y 0).val < 512 := (y 0).isLt
  have key (r : Fin 4) (hr : 128 * r.val ≤ (y 0).val) (hr' : (y 0).val < 128 * r.val + 128) :
      p r (at2 (⟨(y 0).val - 128 * r.val, by omega⟩ : Fin 128) (y 1 : Fin 128)) = q y := by
    rw [hp]
    refine congrArg q (at2_ext ?_ ?_)
    · show 128 * r.val + ((y 0).val - 128 * r.val) = (y 0).val; omega
    · rfl
  by_cases h3 : 384 ≤ (y 0).val
  · refine (View.read_writes_cons_rows_of_mem (rV).view f (o := 384) _ _ _ y (at2 (⟨(y 0).val - 384, by omega⟩ : Fin 128) (y 1 : Fin 128)) rfl
      (by show (y 0).val = 384 + ((y 0).val - 384); omega) rfl).trans ?_
    exact key 3 h3 (by show (y 0).val < 512; omega)
  refine (View.read_writes_cons_rows_of_not_mem (rV).view f (o := 384) (W := 128) _ _ _ y rfl rfl (by omega)).trans ?_
  by_cases h2 : 256 ≤ (y 0).val
  · refine (View.read_writes_cons_rows_of_mem (rV).view f (o := 256) _ _ _ y (at2 (⟨(y 0).val - 256, by omega⟩ : Fin 128) (y 1 : Fin 128)) rfl
      (by show (y 0).val = 256 + ((y 0).val - 256); omega) rfl).trans ?_
    exact key 2 h2 (by show (y 0).val < 384; omega)
  refine (View.read_writes_cons_rows_of_not_mem (rV).view f (o := 256) (W := 128) _ _ _ y rfl rfl (by omega)).trans ?_
  by_cases h1 : 128 ≤ (y 0).val
  · refine (View.read_writes_cons_rows_of_mem (rV).view f (o := 128) _ _ _ y (at2 (⟨(y 0).val - 128, by omega⟩ : Fin 128) (y 1 : Fin 128)) rfl
      (by show (y 0).val = 128 + ((y 0).val - 128); omega) rfl).trans ?_
    exact key 1 h1 (by show (y 0).val < 256; omega)
  refine (View.read_writes_cons_rows_of_not_mem (rV).view f (o := 128) (W := 128) _ _ _ y rfl rfl (by omega)).trans ?_
  refine (View.read_writes_cons_rows_of_mem (rV).view f (o := 0) _ _ _ y (at2 (⟨(y 0).val - 0, by omega⟩ : Fin 128) (y 1 : Fin 128)) rfl
      (by show (y 0).val = 0 + ((y 0).val - 0); omega) rfl).trans ?_
  exact key 0 (Nat.zero_le _) (by show (y 0).val < 128; omega)

/-- The task's rows of the id array, read as four rows of 128: row `r` holds ids `512 w + 128 r` and on, for task `w`. -/
theorem ids_emb (r : Fin 4) (c : Fin 128) :
    (idRectK L).emb (at2 r c : S4x128.Idx) = (at2 (⟨4 * (wid L).val + r.val, by have := (wid L).isLt; have := r.isLt; omega⟩ : Fin 128) c : S128x128.Idx) := by
  have e : k0_off1 L = ![8 * (L 1).val + 4 * (L 0).val, 0] := k0_off1_eq L
  refine at2_ext ?_ ?_
  · show (k0_off1 L) 0 + 1 * r.val = 4 * (2 * (L 1).val + (L 0).val) + r.val
    rw [e]; show 8 * (L 1).val + 4 * (L 0).val + 1 * r.val = _; omega
  · show (k0_off1 L) 1 + 1 * c.val = c.val
    rw [e]; show 0 + 1 * c.val = _; omega

/-- Row `y` of the task's rows of a result is row `512 w + y` of it. -/
theorem out_emb (y : S512x128.Idx) :
    (outRectK L).emb y = (at2 (⟨512 * (wid L).val + (y 0).val, by
      have := (wid L).isLt; have h : (y 0).val < 512 := (y 0).isLt; omega⟩ : Fin 16384) (y 1 : Fin 128) : S16384x128.Idx) := by
  have e : k0_off2 L = ![1024 * (L 1).val + 512 * (L 0).val, 0] := k0_off2_eq L
  refine at2_ext ?_ ?_
  · show (k0_off2 L) 0 + 1 * (y 0).val = 512 * (2 * (L 1).val + (L 0).val) + (y 0).val
    rw [e]; show 1024 * (L 1).val + 512 * (L 0).val + 1 * (y 0).val = _; omega
  · show (k0_off2 L) 1 + 1 * (y 1).val = (y 1).val
    rw [e]; show 0 + 1 * (y 1).val = _; omega

/-- A stream's rows, of the ids the task copied, are the task's rows of `gathered`. -/
theorem stream_gathered (ids : S128x128.Idx → Elt F .i32) (tab : S100000x128.Idx → Elt F .f32) (r : Fin 4) (x : S128x128.Idx) :
    tab (at2 (⟨(ids ((idRectK L).emb (at2 r (x 0 : Fin 128) : S4x128.Idx)) : BitVec 32).toNat % 100000, Nat.mod_lt _ (by decide)⟩ : Fin 100000) (x 1 : Fin 128))
      = gathered (F := F) ids tab ((outRectK L).emb (at2 (⟨128 * r.val + (x 0).val, by
          have hx : (x 0).val < 128 := (x 0).isLt
          have := r.isLt; omega⟩ : Fin 512) (x 1 : Fin 128) : S512x128.Idx)) := by
  rw [out_emb]
  have hi := ids_emb L r (x 0 : Fin 128)
  unfold gathered idAt
  refine congrArg tab (at2_ext ?_ rfl)
  show (ids _ : BitVec 32).toNat % 100000 = (ids _ : BitVec 32).toNat % 100000
  refine congrArg (fun z => (ids z : BitVec 32).toNat % 100000) (hi.trans (at2_ext ?_ ?_))
  · have hx : (x 0).val < 128 := (x 0).isLt
    show 4 * (wid L).val + r.val = (512 * (wid L).val + (128 * r.val + (x 0).val)) / 128
    omega
  · have hx : (x 0).val < 128 := (x 0).isLt
    show (x 0).val = (512 * (wid L).val + (128 * r.val + (x 0).val)) % 128
    omega

/-- Stream `r` of a task, of a list that is the task's ids and a source that is the table, writes rows of `gathered`. -/
theorem stream_value (ids : S128x128.Idx → Elt F .i32) (r : Fin 4) (off : Fin 2 → ℕ) (h : ∀ a, off a + S1x128.size a ≤ S4x128.size a)
    (ho : off = ![r.val, 0]) (g : (sV).view.ty.Contents (Elt F)) (w : S4x128.Idx → Elt F .i32) (hw : ∀ z, w z = ids ((idRectK L).emb z))
    (src tab : S100000x128.Idx → Elt F .f32) (hs : ∀ z, src z = tab z)
    (hn : S128.numel = S128x128.size gathers_S100000x128_S128x128.axis')
    (hin : ∀ x, ((listK off h).view.read (Elt F) (View.write (Elt F) (sV).view g w Finset.univ) x).toNat
      < S100000x128.size gathers_S100000x128_S128x128.axis) (x : S128x128.Idx) :
    SparseCore.gatherPayload (F := F) (e := .f32) gathers_S100000x128_S128x128 src
        (SparseCore.rows ((listK off h).view.read (Elt F) (View.write (Elt F) (sV).view g w Finset.univ)) hn hin) x
      = gathered (F := F) ids tab ((outRectK L).emb (at2 (⟨128 * r.val + (x 0).val, by
          have hx : (x 0).val < 128 := (x 0).isLt
          have := r.isLt; omega⟩ : Fin 512) (x 1 : Fin 128) : S512x128.Idx)) := by
  refine (stream_read r off h ho g w src tab hs hn hin x).trans (Eq.trans ?_ (stream_gathered L ids tab r x))
  refine congrArg tab (at2_ext ?_ rfl)
  show (w _ : BitVec 32).toNat % 100000 = (ids _ : BitVec 32).toNat % 100000
  rw [hw]

end Cert.Proof.KI

end
-- ==== Proof.KI.Tile.lean ====
/-
  The gather kernel's task on one vector subcore. Subcore `s` of SparseCore `c` is task `2 s + c` of thirty-two: it
  copies its four rows of 128 ids, gathers the table row each id names into its row scratch, 128 rows a stream, and
  copies the 512 rows out; first for the users, then for the items. Each task holds its rows of the id arrays, its rows
  of the two results, and a share of each table. The value is carried: the result's rows are `gathered ids table`.
-/
module

public import proofs.«01_k».proof.Proof.KI.Rows

@[expose] public section

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## What a task holds -/

variable (E : (d : Dev nD) → (b : Ref sig .tc) → Buf (Elt F) ((T d : Thread nD τ).loc b))

/-- Task `w` at its start. -/
abbrev goP (d : Dev nD) (w : Fin 32) : sProp 𝕄 :=
  iprop((uidLoc d ↦[(idRect w).set]{fullShare} E d main_v0) ∗ (iidLoc d ↦[(idRect w).set]{fullShare} E d main_v1)
    ∗ (utLoc d ↦{shr w} E d main_arg4) ∗ (itLoc d ↦{shr w} E d main_arg5)
    ∗ (ueLoc d ↦[(outRect w).set]{fullShare} E d main_v2_0) ∗ (ieLoc d ↦[(outRect w).set]{fullShare} E d main_v2_1))
/-- Task `w` at its end: its rows of the results are the gathered ones. -/
abbrev tdP (d : Dev nD) (w : Fin 32) : sProp 𝕄 :=
  iprop((uidLoc d ↦[(idRect w).set]{fullShare} E d main_v0) ∗ (iidLoc d ↦[(idRect w).set]{fullShare} E d main_v1)
    ∗ (utLoc d ↦{shr w} E d main_arg4) ∗ (itLoc d ↦{shr w} E d main_arg5)
    ∗ (ueLoc d ↦[(outRect w).set]{fullShare} (gathered (F := F) (E d main_v0) (E d main_arg4) : Buf (Elt F) (ueLoc d)))
    ∗ (ieLoc d ↦[(outRect w).set]{fullShare} (gathered (F := F) (E d main_v1) (E d main_arg5) : Buf (Elt F) (ieLoc d))))

/-- Every id names a row of its table. -/
def InRows (d : Dev nD) : Prop :=
  (∀ j : S128x128.Idx, (E d main_v0 j : BitVec 32).toNat < 100000) ∧ ∀ j : S128x128.Idx, (E d main_v1 j : BitVec 32).toNat < 100000

variable [FloatOps F]

section Tile

variable (d : Dev nD) (L : grid0.Coords)

omit [FloatOps F] in
/-- The users' id rows that the task addresses are its part, -/
theorem set_uidK : (uidK L).view.set = (idRect (wid L)).set := by
  show ((View.whole (main_v0_scv : Ref sig .scVector)).slice (idRectK L)).set = _
  rw [View.set_slice, idRectK_eq]; exact Finset.map_refl
omit [FloatOps F] in
/-- so are the items' id rows, -/
theorem set_iidK : (iidK L).view.set = (idRect (wid L)).set := by
  show ((View.whole (main_v1_scv : Ref sig .scVector)).slice (idRectK L)).set = _
  rw [View.set_slice, idRectK_eq]; exact Finset.map_refl
omit [FloatOps F] in
/-- the users' result rows, -/
theorem set_ueK : (ueK L).view.set = (outRect (wid L)).set := by
  show ((View.whole (main_v2_0_scv : Ref sig .scVector)).slice (outRectK L)).set = _
  rw [View.set_slice, outRectK_eq]; exact Finset.map_refl
omit [FloatOps F] in
/-- and the items' result rows. -/
theorem set_ieK : (ieK L).view.set = (outRect (wid L)).set := by
  show ((View.whole (main_v2_1_scv : Ref sig .scVector)).slice (outRectK L)).set = _
  rw [View.set_slice, outRectK_eq]; exact Finset.map_refl

omit [FloatOps F] in
/-- Holding the users' id rows through the task's view is holding its part of the ids, -/
theorem pts_uidK (f : Buf (Elt F) (uidLoc d)) :
    ((uidK L).view.loc (V d (cV L) (jV L)) ↦[(uidK L).view.set]{fullShare} f : sProp 𝕄) = uidLoc d ↦[(idRect (wid L)).set]{fullShare} f := by
  rw [set_uidK]
omit [FloatOps F] in
/-- the same for the items' ids, -/
theorem pts_iidK (f : Buf (Elt F) (iidLoc d)) :
    ((iidK L).view.loc (V d (cV L) (jV L)) ↦[(iidK L).view.set]{fullShare} f : sProp 𝕄) = iidLoc d ↦[(idRect (wid L)).set]{fullShare} f := by
  rw [set_iidK]
omit [FloatOps F] in
/-- for the users' result rows, -/
theorem pts_ueK (f : Buf (Elt F) (ueLoc d)) :
    ((ueK L).view.loc (V d (cV L) (jV L)) ↦[(ueK L).view.set]{fullShare} f : sProp 𝕄) = ueLoc d ↦[(outRect (wid L)).set]{fullShare} f := by
  rw [set_ueK]
omit [FloatOps F] in
/-- and for the items' result rows. -/
theorem pts_ieK (f : Buf (Elt F) (ieLoc d)) :
    ((ieK L).view.loc (V d (cV L) (jV L)) ↦[(ieK L).view.set]{fullShare} f : sProp 𝕄) = ieLoc d ↦[(outRect (wid L)).set]{fullShare} f := by
  rw [set_ieK]
omit [FloatOps F] in
/-- Holding a share of the users' table through the task's view is holding it, -/
theorem pts_utV (q : PosShare TreeShare) (f : Buf (Elt F) (utLoc d)) :
    ((utV).view.loc (V d (cV L) (jV L)) ↦{q} f : sProp 𝕄) = utLoc d ↦{q} f := rfl
omit [FloatOps F] in
/-- the same for the items' table, -/
theorem pts_itV (q : PosShare TreeShare) (f : Buf (Elt F) (itLoc d)) :
    ((itV).view.loc (V d (cV L) (jV L)) ↦{q} f : sProp 𝕄) = itLoc d ↦{q} f := rfl
omit [FloatOps F] in
/-- for the scratch of ids, -/
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
/-- and for the scratch of rows. -/
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- A transfer semaphore of a subcore. -/
abbrev dcell (d : Dev nD) (c : Fin τ.nSC) (i : Fin τ.nSub) (s : DmaSem sig) : GSem nD τ sig := (V d c i, .dma s)

/-- The five transfer semaphores of the task are among the subcore's own, at zero. -/
theorem ownSems0_V :
    (ownSems0 (V d (cV L) (jV L)) : sProp 𝕄)
      = iprop(semVal (dcell d (cV L) (jV L) cc0_scratch2.sem) 0 ∗ semVal (dcell d (cV L) (jV L) cc0_scoped0.sem) 0
          ∗ semVal (dcell d (cV L) (jV L) cc0_scoped1.sem) 0 ∗ semVal (dcell d (cV L) (jV L) cc0_scoped2.sem) 0
          ∗ semVal (dcell d (cV L) (jV L) cc0_scoped3.sem) 0
          ∗ bigSep ((((((ownCells (V d (cV L) (jV L))).erase (dcell d (cV L) (jV L) cc0_scratch2.sem)).erase (dcell d (cV L) (jV L) cc0_scoped0.sem)).erase
              (dcell d (cV L) (jV L) cc0_scoped1.sem)).erase (dcell d (cV L) (jV L) cc0_scoped2.sem)).erase (dcell d (cV L) (jV L) cc0_scoped3.sem))
              fun g => semVal g 0) := by
  have own (s : DmaSem sig) (h : (SemLoc.dma s : SemLoc sig).isScoped .scVector = true) :
      dcell d (cV L) (jV L) s ∈ ownCells (V d (cV L) (jV L)) := (mem_ownCells (g := dcell d (cV L) (jV L) s)).mpr ⟨rfl, h⟩
  have ne (s s' : DmaSem sig) (h : s ≠ s') : dcell d (cV L) (jV L) s ≠ dcell d (cV L) (jV L) s' := fun e =>
    h (by injection (Prod.ext_iff.mp e).2)
  unfold SparseCore.Cfg.ownSems0
  rw [SparseCore.bigSep_erase' (own cc0_scratch2.sem (by decide)),
    SparseCore.bigSep_erase' (Finset.mem_erase.mpr ⟨ne cc0_scoped0.sem _ (by decide), own cc0_scoped0.sem (by decide)⟩),
    SparseCore.bigSep_erase' (Finset.mem_erase.mpr ⟨ne cc0_scoped1.sem _ (by decide),
      Finset.mem_erase.mpr ⟨ne cc0_scoped1.sem _ (by decide), own cc0_scoped1.sem (by decide)⟩⟩),
    SparseCore.bigSep_erase' (Finset.mem_erase.mpr ⟨ne cc0_scoped2.sem _ (by decide),
      Finset.mem_erase.mpr ⟨ne cc0_scoped2.sem _ (by decide),
      Finset.mem_erase.mpr ⟨ne cc0_scoped2.sem _ (by decide), own cc0_scoped2.sem (by decide)⟩⟩⟩),
    SparseCore.bigSep_erase' (Finset.mem_erase.mpr ⟨ne cc0_scoped3.sem _ (by decide),
      Finset.mem_erase.mpr ⟨ne cc0_scoped3.sem _ (by decide),
      Finset.mem_erase.mpr ⟨ne cc0_scoped3.sem _ (by decide),
      Finset.mem_erase.mpr ⟨ne cc0_scoped3.sem _ (by decide), own cc0_scoped3.sem (by decide)⟩⟩⟩⟩)]

omit [FloatOps F] in
/-- The id scratch and the row scratch are among the subcore's own buffers. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- A list read from the id scratch is in range once the scratch holds ids in range. -/
theorem list_inb (off : Fin 2 → ℕ) (h : ∀ a, off a + S1x128.size a ≤ S4x128.size a)
    (g : Buf (Elt F) ((V d (cV L) (jV L)).loc cc0_scratch0)) (hg : ∀ j, (g j : BitVec 32).toNat < 100000) :
    ∀ x, ((listK off h).view.read (Elt F) g x).toNat < S100000x128.size gathers_S100000x128_S128x128.axis := by
  intro x
  rw [show (listK off h).view.read (Elt F) g x = g ((listK off h).view.emb x) from (View.read_apply _ _).trans (cast_eq _ _)]
  exact hg _

/-- What the id copy lands is in range. -/
theorem landed_inb (K : Memref sig .scVector .hbm S4x128 .i32) (f : Buf (Elt F) (K.view.loc (V d (cV L) (jV L))))
    (hf : ∀ x, (K.view.read (Elt F) f x : BitVec 32).toNat < 100000)
    (off : Fin 2 → ℕ) (h : ∀ a, off a + S1x128.size a ≤ S4x128.size a)
    (g : Buf (Elt F) ((V d (cV L) (jV L)).loc cc0_scratch0)) :
    ∀ x, ((listK off h).view.read (Elt F) (View.write (Elt F) (sV).view g (ReadAs.same.apply (K.view.read (Elt F) f)) Finset.univ) x).toNat
      < S100000x128.size gathers_S100000x128_S128x128.axis := by
  refine list_inb (F := F) d L off h _ fun j => ?_
  rw [View.write_whole_univ]
  exact hf _

/-- The task's rows of the user ids, as it copies them. -/
theorem id_read_u (z : S4x128.Idx) :
    (ReadAs.same.apply ((uidK L).view.read (Elt F) (E d main_v0)) : S4x128.Idx → Elt F .i32) z = E d main_v0 ((idRectK L).emb z) :=
  (View.read_apply _ _).trans (cast_eq _ _)
/-- The task's rows of the item ids, as it copies them. -/
theorem id_read_i (z : S4x128.Idx) :
    (ReadAs.same.apply ((iidK L).view.read (Elt F) (E d main_v1)) : S4x128.Idx → Elt F .i32) z = E d main_v1 ((idRectK L).emb z) :=
  (View.read_apply _ _).trans (cast_eq _ _)
/-- The streams' source is the whole user table. -/
theorem tab_read_u (z : S100000x128.Idx) :
    ((utV).slice (Rect.unit ![0, 0] S100000x128.size inb_S100000x128_S100000x128_0_0) (fun _ => rfl)).view.read (Elt F) (E d main_arg4) z = E d main_arg4 z := by
  refine ((View.read_apply _ _).trans (cast_eq _ _)).trans (congrArg (E d main_arg4) (at2_ext ?_ ?_))
  · show 0 + 1 * (z 0).val = (z 0).val; omega
  · show 0 + 1 * (z 1).val = (z 1).val; omega
/-- The streams' source is the whole item table. -/
theorem tab_read_i (z : S100000x128.Idx) :
    ((itV).slice (Rect.unit ![0, 0] S100000x128.size inb_S100000x128_S100000x128_0_0) (fun _ => rfl)).view.read (Elt F) (E d main_arg5) z = E d main_arg5 z := by
  refine ((View.read_apply _ _).trans (cast_eq _ _)).trans (congrArg (E d main_arg5) (at2_ext ?_ ?_))
  · show 0 + 1 * (z 0).val = (z 0).val; omega
  · show 0 + 1 * (z 1).val = (z 1).val; omega

/-- The copied-out rows, when each is the array's `q`, are `q` on the task's rows. -/
theorem landed_ue (w : S512x128.Idx → Elt F .f32) {q : S16384x128.Idx → Elt F .f32} (h : ∀ y, w y = q ((outRectK L).emb y)) :
    ((ueK L).view.loc (V d (cV L) (jV L)) ↦[(ueK L).view.set]{fullShare} (ueK L).view.writes (Elt F) (E d main_v2_0) [⟨Rect.whole S512x128, w⟩] : sProp 𝕄)
      ⊢ ueLoc d ↦[(outRect (wid L)).set]{fullShare} (q : Buf (Elt F) (ueLoc d)) := by
  rw [← pts_ueK]
  refine Entails.of_eq (pointsTo_congr ?_)
  intro i hi
  obtain ⟨y, -, rfl⟩ := Finset.mem_map.mp hi
  refine Eq.trans ?_ (h y)
  have e := congrFun (View.read_writes_whole (Val := Elt F) (ueK L).view (E d main_v2_0) w) y
  exact ((View.read_apply _ _).trans (cast_eq _ _)).symm.trans e
/-- The same for the item rows. -/
theorem landed_ie (w : S512x128.Idx → Elt F .f32) {q : S16384x128.Idx → Elt F .f32} (h : ∀ y, w y = q ((outRectK L).emb y)) :
    ((ieK L).view.loc (V d (cV L) (jV L)) ↦[(ieK L).view.set]{fullShare} (ieK L).view.writes (Elt F) (E d main_v2_1) [⟨Rect.whole S512x128, w⟩] : sProp 𝕄)
      ⊢ ieLoc d ↦[(outRect (wid L)).set]{fullShare} (q : Buf (Elt F) (ieLoc d)) := by
  rw [← pts_ieK]
  refine Entails.of_eq (pointsTo_congr ?_)
  intro i hi
  obtain ⟨y, -, rfl⟩ := Finset.mem_map.mp hi
  refine Eq.trans ?_ (h y)
  have e := congrFun (View.read_writes_whole (Val := Elt F) (ieK L).view (E d main_v2_1) w) y
  exact ((View.read_apply _ _).trans (cast_eq _ _)).symm.trans e

set_option maxHeartbeats 4000000 in
/-- The task at any SparseCore and subcore: from its ids, its share of both tables and its result rows, it runs to the end and leaves in those rows the tables' rows at the ids. -/
theorem tile_body (hF : (scK (F := F)).Facts) (hpre : InRows E d) (O : CellTallies nD τ sig (HIx 1)) (W : Waits sig (HIx 1)) (hO : ∀ g, O g none = 0) :
    iprop(levAts (scK (F := F)).L (scK (F := F)).lev ∗ emp
        ∗ goP E d (wid L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_body L utV (Memref.isWhole_whole _) itV (Memref.isWhole_whole _) uidV (Memref.isWhole_whole _) iidV (Memref.isWhole_whole _)
            ueV (Memref.isWhole_whole _) ieV (Memref.isWhole_whole _)
            sV (Memref.isWhole_whole _) rV (Memref.isWhole_whole _) cc0_scratch2 cc0_scoped0 cc0_scoped1 cc0_scoped2 cc0_scoped3)
          fun _ => iprop(tdP E d (wid L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_body_eq_skeleton, cc0__gather_body_skel, k0_part1_eq_skeleton, k0_part2_eq_skeleton, k0_part3_eq_skeleton,
    k0_part1_skel, k0_part2_skel, k0_part3_skel]
  rw [(scK (F := F)).scopedBufs_V hF d (cV L) (jV L), SparseCore.Cfg.scopedSems0_V (Val := Elt F) d (cV L) (jV L), ownSems0_V, ownBufs_V]
  iintro ⟨#Hlv, -, ⟨Hu, Hi, Hut, Hit, Hue, Hie⟩, ⟨⟨%fs, Hs⟩, ⟨%fr, Hr⟩, Hbufs⟩, ⟨Hsem, HsemA, HsemB, HsemC, HsemD, Hsems⟩, HO⟩
  ihave Hmw := (show levAts (scK (F := F)).L (scK (F := F)).lev ⊢ Transfers.MayWaits (V d (cV L) (jV L)) (default : HIx 1) O from
    (scK (F := F)).mayWaits_none (thr := V d (cV L) (jV L)) hO) $$ Hlv
  ihave Hu' := (Entails.of_eq (pts_uidK (F := F) d L _).symm) $$ Hu
  ihave Hi' := (Entails.of_eq (pts_iidK (F := F) d L _).symm) $$ Hi
  ihave Hut' := (Entails.of_eq (pts_utV (F := F) d L _ _).symm) $$ Hut
  ihave Hit' := (Entails.of_eq (pts_itV (F := F) d L _ _).symm) $$ Hit
  ihave Hue' := (Entails.of_eq (pts_ueK (F := F) d L _).symm) $$ Hue
  ihave Hie' := (Entails.of_eq (pts_ieK (F := F) d L _).symm) $$ Hie
  ihave Hs' := (Entails.of_eq (pts_sV (F := F) d L _).symm) $$ Hs
  ihave Hr' := (Entails.of_eq (pts_rV (F := F) d L _).symm) $$ Hr
  have hu : ∀ x, ((uidK L).view.read (Elt F) (E d main_v0) x : BitVec 32).toNat < 100000 := fun x => by
    rw [show (uidK L).view.read (Elt F) (E d main_v0) x = E d main_v0 ((uidK L).view.emb x) from (View.read_apply _ _).trans (cast_eq _ _)]
    exact hpre.1 _
  have hi : ∀ x, ((iidK L).view.read (Elt F) (E d main_v1) x : BitVec 32).toNat < 100000 := fun x => by
    rw [show (iidK L).view.read (Elt F) (E d main_v1) x = E d main_v1 ((iidK L).view.emb x) from (View.read_apply _ _).trans (cast_eq _ _)]
    exact hpre.2 _
  have hu0 := fun g => landed_inb (F := F) d L (uidK L) (E d main_v0) hu ![0, 0] inb_S4x128_S1x128_0_0 g
  have hu1 := fun g => landed_inb (F := F) d L (uidK L) (E d main_v0) hu ![1, 0] inb_S4x128_S1x128_1_0 g
  have hu2 := fun g => landed_inb (F := F) d L (uidK L) (E d main_v0) hu ![2, 0] inb_S4x128_S1x128_2_0 g
  have hu3 := fun g => landed_inb (F := F) d L (uidK L) (E d main_v0) hu ![3, 0] inb_S4x128_S1x128_3_0 g
  have hi0 := fun g => landed_inb (F := F) d L (iidK L) (E d main_v1) hi ![0, 0] inb_S4x128_S1x128_0_0 g
  have hi1 := fun g => landed_inb (F := F) d L (iidK L) (E d main_v1) hi ![1, 0] inb_S4x128_S1x128_1_0 g
  have hi2 := fun g => landed_inb (F := F) d L (iidK L) (E d main_v1) hi ![2, 0] inb_S4x128_S1x128_2_0 g
  have hi3 := fun g => landed_inb (F := F) d L (iidK L) (E d main_v1) hi ![3, 0] inb_S4x128_S1x128_3_0 g
  sl_exec
  sl_step
  have eu : ∀ y, tile_body.sl.dma0_1 E d L fs fr hu0 hu1 hu2 hu3 y = gathered (F := F) (E d main_v0) (E d main_arg4) ((outRectK L).emb y) := by
    intro y
    unfold tile_body.sl.dma0_1
    refine scratch_read (F := F) fr (fun r => match r with
      | 0 => tile_body.sl.gather1 E d L fs hu0
      | 1 => tile_body.sl.gather2 E d L fs hu1
      | 2 => tile_body.sl.gather3 E d L fs hu2
      | 3 => tile_body.sl.gather4 E d L fs hu3) (fun y => gathered (F := F) (E d main_v0) (E d main_arg4) ((outRectK L).emb y)) ?_ _ y
    intro r x
    match r with
    | 0 => exact stream_value (F := F) L (E d main_v0) 0 _ _ rfl _ _ (fun z => id_read_u E d L z) _ _ (fun z => tab_read_u E d z) _ _ x
    | 1 => exact stream_value (F := F) L (E d main_v0) 1 _ _ rfl _ _ (fun z => id_read_u E d L z) _ _ (fun z => tab_read_u E d z) _ _ x
    | 2 => exact stream_value (F := F) L (E d main_v0) 2 _ _ rfl _ _ (fun z => id_read_u E d L z) _ _ (fun z => tab_read_u E d z) _ _ x
    | 3 => exact stream_value (F := F) L (E d main_v0) 3 _ _ rfl _ _ (fun z => id_read_u E d L z) _ _ (fun z => tab_read_u E d z) _ _ x
  have ei : ∀ y, tile_body.sl.dma0_3 E d L fs fr hu0 hu1 hu2 hu3 hi0 hi1 hi2 hi3 y = gathered (F := F) (E d main_v1) (E d main_arg5) ((outRectK L).emb y) := by
    intro y
    unfold tile_body.sl.dma0_3
    refine scratch_read (F := F) fr (fun r => match r with
      | 0 => tile_body.sl.gather7 E d L fs hi0
      | 1 => tile_body.sl.gather8 E d L fs hi1
      | 2 => tile_body.sl.gather9 E d L fs hi2
      | 3 => tile_body.sl.gather10 E d L fs hi3) (fun y => gathered (F := F) (E d main_v1) (E d main_arg5) ((outRectK L).emb y)) ?_ _ y
    intro r x
    match r with
    | 0 => exact stream_value (F := F) L (E d main_v1) 0 _ _ rfl _ _ (fun z => id_read_i E d L z) _ _ (fun z => tab_read_i E d z) _ _ x
    | 1 => exact stream_value (F := F) L (E d main_v1) 1 _ _ rfl _ _ (fun z => id_read_i E d L z) _ _ (fun z => tab_read_i E d z) _ _ x
    | 2 => exact stream_value (F := F) L (E d main_v1) 2 _ _ rfl _ _ (fun z => id_read_i E d L z) _ _ (fun z => tab_read_i E d z) _ _ x
    | 3 => exact stream_value (F := F) L (E d main_v1) 3 _ _ rfl _ _ (fun z => id_read_i E d L z) _ _ (fun z => tab_read_i E d z) _ _ x
  ihave Hue2 := (landed_ue E d L _ eu) $$ Hue'
  ihave Hie2 := (landed_ie E d L _ ei) $$ Hie'
  ihave Hu2 := (Entails.of_eq (pts_uidK (F := F) d L _)) $$ Hu'
  ihave Hi2 := (Entails.of_eq (pts_iidK (F := F) d L _)) $$ Hi'
  isplitl [Hu2 Hi2 Hut' Hit' Hue2 Hie2]
  · isplitl [Hu2]; · iexact Hu2
    isplitl [Hi2]; · iexact Hi2
    isplitl [Hut']; · iexact Hut'
    isplitl [Hit']; · iexact Hit'
    isplitl [Hue2]; · iexact Hue2
    iexact Hie2
  isplitl [Hs' Hr' Hbufs]
  · isplitl [Hs']; · iexists _; iexact Hs'
    isplitl [Hr']; · iexists _; iexact Hr'
    iexact Hbufs
  isplitl [Hsem HsemA HsemB HsemC HsemD Hsems]
  · isplitl [Hsem]; · iexact Hsem
    isplitl [HsemA]; · iexact HsemA
    isplitl [HsemB]; · iexact HsemB
    isplitl [HsemC]; · iexact HsemC
    isplitl [HsemD]; · iexact HsemD
    iexact Hsems
  iexists _; isplitr
  rotate_left
  · iexact HO
  · ipureintro
    have key {p : Waits sig (HIx 1)} {s} (h : ∀ q ∈ p, q ∈ W ∨ q.2 = none) : ∀ q ∈ insert (s, (default : HIx 1)) p, q ∈ W ∨ q.2 = none := by
      intro q hq
      rcases Finset.mem_insert.mp hq with rfl | hq
      · exact Or.inr rfl
      · exact h q hq
    iterate 12 apply key
    exact fun q hq => Or.inl hq

end Tile

end Cert.Proof.KI

end
-- ==== Proof.KI.Call.lean ====
/-
  The gather kernel's call as the SparseCore launch sees it: what the handshakes carry, the obligation of one task, and
  that the six whole arrays are the thirty-two tasks' parts. Of the tables each task has a share, of the id arrays and of
  the results its rows.
-/
module

public import proofs.«01_k».proof.Proof.KI.Tile

@[expose] public section

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (E : (d : Dev nD) → (b : Ref sig .tc) → Buf (Elt F) ((T d : Thread nD τ).loc b))

/-- The number of the task on tile `i` of SparseCore `c`. -/
abbrev task (c : Fin ((scK (F := F)).nCore 0)) (i : Fin ((scK (F := F)).nSub 0)) : Fin 32 :=
  ⟨2 * i.val + c.val, by
    have hc : c.val < 2 := c.isLt
    have hi : i.val < 16 := i.isLt
    omega⟩

/-- The call hands each SparseCore its sixteen tasks' parts, and takes them back with the rows gathered. -/
def P : (scK (F := F)).Pay (nD := nD) (Val := Elt F) (Name := ℕ) (U := UU) where
  st := fun q d c => match q with | 0 => bigSep Finset.univ fun i => goP E d (task (F := F) c i)
  dn := fun q d c => match q with | 0 => bigSep Finset.univ fun i => tdP E d (task (F := F) c i)
  go := fun q d c i => match q with | 0 => goP E d (task (F := F) c i)
  td := fun q d c i => match q with | 0 => tdP E d (task (F := F) c i)
  x := fun _ _ => iprop(emp)

/-- What the call hands over and takes back can be kept in a shared record. -/
instance P_storable : (P (F := F) E).IsStorable where
  st q d c := match q with
    | 0 => (inferInstance : BI.Storable (upEmb : UEmb _ 𝕄) (bigSep Finset.univ fun i => goP E d (task (F := F) c i)))
  dn q d c := match q with
    | 0 => (inferInstance : BI.Storable (upEmb : UEmb _ 𝕄) (bigSep Finset.univ fun i => tdP E d (task (F := F) c i)))
  go q d c i := match q with
    | 0 => (inferInstance : BI.Storable (upEmb : UEmb _ 𝕄) (goP E d (task (F := F) c i)))
  td q d c i := match q with
    | 0 => (inferInstance : BI.Storable (upEmb : UEmb _ 𝕄) (tdP E d (task (F := F) c i)))

/-- A SparseCore's parts are its tasks' parts, handed out and taken back as they are. -/
theorem vecSplit : (scK (F := F)).VecSplit' (P E) 0 := by
  intro d c
  show (bigSep Finset.univ fun i => goP E d (task (F := F) c i)) ⊢ |={Set.univ}=> iprop(
      (bigSep Finset.univ fun i => goP E d (task (F := F) c i))
      ∗ ((bigSep Finset.univ fun i => tdP E d (task (F := F) c i)) -∗ bigSep Finset.univ fun i => tdP E d (task (F := F) c i)))
  iintro H; imodintro
  isplitl [H]; · iexact H
  iintro H; iexact H

/-! ## The whole arrays and the tasks' parts -/

/-- The thirty-two tasks, SparseCore by SparseCore. -/
theorem tasks_eq (Φ : Fin 32 → sProp 𝕄) :
    bigSep Finset.univ Φ
      = bigSep Finset.univ fun c : Fin ((scK (F := F)).nCore 0) => bigSep Finset.univ fun i : Fin ((scK (F := F)).nSub 0) => Φ (task (F := F) c i) := by
  rw [bigSep_univ_equiv ((Equiv.prodComm (Fin 2) (Fin 16)).trans (finProdFinEquiv (m := 16) (n := 2))) Φ, bigSep_univ_prod]
  refine bigSep_congr fun c _ => bigSep_congr fun i _ => congrArg Φ (Fin.ext ?_)
  show c.val + 2 * i.val = 2 * i.val + c.val
  omega

/-- An array held whole is its 32 disjoint parts held one by one. -/
theorem idPts_rows {ℓ : Loc nD τ sig} (f : Buf (Elt F) ℓ) (K : Fin 32 → Finset (Idx ℓ))
    (hd : ∀ i j, i ≠ j → Disjoint (K i) (K j)) (hc : (Finset.univ : Finset (Fin 32)).biUnion K = Finset.univ) :
    (ℓ ↦{fullShare} f : sProp 𝕄) = bigSep Finset.univ fun w : Fin 32 => ℓ ↦[K w]{fullShare} f := by
  rw [← pointsTo_biUnion Finset.univ (ℓ := ℓ) K (fun i _ j _ h => hd i j h), hc]

/-- The six arrays held whole are the thirty-two tasks' parts. -/
theorem arrays_tasks (d : Dev nD) (ue : Buf (Elt F) (ueLoc d)) (ie : Buf (Elt F) (ieLoc d)) :
    (iprop((uidLoc d ↦{fullShare} E d main_v0) ∗ (iidLoc d ↦{fullShare} E d main_v1) ∗ (utLoc d ↦{fullShare} E d main_arg4)
        ∗ (itLoc d ↦{fullShare} E d main_arg5) ∗ (ueLoc d ↦{fullShare} ue) ∗ (ieLoc d ↦{fullShare} ie)) : sProp 𝕄)
      = bigSep Finset.univ fun c : Fin ((scK (F := F)).nCore 0) => bigSep Finset.univ fun i : Fin ((scK (F := F)).nSub 0) =>
          iprop((uidLoc d ↦[(idRect (task (F := F) c i)).set]{fullShare} E d main_v0) ∗ (iidLoc d ↦[(idRect (task (F := F) c i)).set]{fullShare} E d main_v1)
            ∗ (utLoc d ↦{shr (task (F := F) c i)} E d main_arg4) ∗ (itLoc d ↦{shr (task (F := F) c i)} E d main_arg5)
            ∗ (ueLoc d ↦[(outRect (task (F := F) c i)).set]{fullShare} ue) ∗ (ieLoc d ↦[(outRect (task (F := F) c i)).set]{fullShare} ie)) := by
  rw [← tasks_eq (F := F) (fun w => iprop((uidLoc d ↦[(idRect w).set]{fullShare} E d main_v0) ∗ (iidLoc d ↦[(idRect w).set]{fullShare} E d main_v1)
            ∗ (utLoc d ↦{shr w} E d main_arg4) ∗ (itLoc d ↦{shr w} E d main_arg5)
            ∗ (ueLoc d ↦[(outRect w).set]{fullShare} ue) ∗ (ieLoc d ↦[(outRect w).set]{fullShare} ie)))]
  rw [bigSep_sep', bigSep_sep', bigSep_sep', bigSep_sep', bigSep_sep']
  rw [idPts_rows (F := F) (ℓ := uidLoc d) (E d main_v0) (fun w => (idRect w).set) (fun _ _ h => Rect.part_disjoint idDiv h) (Rect.biUnion_part idDiv),
    idPts_rows (F := F) (ℓ := iidLoc d) (E d main_v1) (fun w => (idRect w).set) (fun _ _ h => Rect.part_disjoint idDiv h) (Rect.biUnion_part idDiv),
    idPts_rows (F := F) (ℓ := ueLoc d) ue (fun w => (outRect w).set) (fun _ _ h => Rect.part_disjoint outDiv h) (Rect.biUnion_part outDiv),
    idPts_rows (F := F) (ℓ := ieLoc d) ie (fun w => (outRect w).set) (fun _ _ h => Rect.part_disjoint outDiv h) (Rect.biUnion_part outDiv),
    pointsTo_piecesOf (ℓ := utLoc d) Finset.univ (E d main_arg4) (o := 32) (by decide) fullShare,
    pointsTo_piecesOf (ℓ := itLoc d) Finset.univ (E d main_arg5) (o := 32) (by decide) fullShare]

/-- The call takes the six arrays whole, -/
theorem st0_eq (d : Dev nD) : (bigSep Finset.univ fun c : Fin ((scK (F := F)).nCore 0) => (P E).st 0 d c)
    = (iprop((uidLoc d ↦{fullShare} E d main_v0) ∗ (iidLoc d ↦{fullShare} E d main_v1) ∗ (utLoc d ↦{fullShare} E d main_arg4)
        ∗ (itLoc d ↦{fullShare} E d main_arg5) ∗ (ueLoc d ↦{fullShare} E d main_v2_0) ∗ (ieLoc d ↦{fullShare} E d main_v2_1)) : sProp 𝕄) :=
  (arrays_tasks E d (E d main_v2_0) (E d main_v2_1)).symm
/-- and leaves the results gathered. -/
theorem dn0_eq (d : Dev nD) : (bigSep Finset.univ fun c : Fin ((scK (F := F)).nCore 0) => (P E).dn 0 d c)
    = (iprop((uidLoc d ↦{fullShare} E d main_v0) ∗ (iidLoc d ↦{fullShare} E d main_v1) ∗ (utLoc d ↦{fullShare} E d main_arg4)
        ∗ (itLoc d ↦{fullShare} E d main_arg5)
        ∗ (ueLoc d ↦{fullShare} (gathered (F := F) (E d main_v0) (E d main_arg4) : Buf (Elt F) (ueLoc d)))
        ∗ (ieLoc d ↦{fullShare} (gathered (F := F) (E d main_v1) (E d main_arg5) : Buf (Elt F) (ieLoc d)))) : sProp 𝕄) :=
  (arrays_tasks E d (gathered (F := F) (E d main_v0) (E d main_arg4)) (gathered (F := F) (E d main_v1) (E d main_arg5))).symm

variable [FloatOps F]

/-! ## The obligation -/

/-- The grid coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- What a tile runs for the call. -/
theorem defs₀_vector (c : Fin τ.nSC) (s : Fin τ.nSub) :
    defs₀ (F := F) (.scVector c s) 0 ()
      = SparseCore.onTile hcore0 hsub0 (fun c s => cc0__gather_body (coordsV c s)
          utV (Memref.isWhole_whole _) itV (Memref.isWhole_whole _) uidV (Memref.isWhole_whole _) iidV (Memref.isWhole_whole _)
          ueV (Memref.isWhole_whole _) ieV (Memref.isWhole_whole _)
          sV (Memref.isWhole_whole _) rV (Memref.isWhole_whole _) cc0_scratch2 cc0_scoped0 cc0_scoped1 cc0_scoped2 cc0_scoped3) ⟨⟩ c s := rfl

/-- Waits recorded in no call are among those recorded in no call or in this one. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each tile's task, from its part to its part with the rows gathered. -/
theorem tileObl (hF : (scK (F := F)).Facts) (hpre : ∀ d, InRows E d) : (scK (F := F)).TileObl (DP (F := F)) 𝒱 (P E) v₀ 0 := by
  intro d c i O W hO _ _
  simp only [show (P E).ox = fun _ _ => 0 from rfl, add_zero]
  have hci : ((scK (F := F)).core 0 c).val < grid0.bound 0 ∧ ((scK (F := F)).sub 0 i).val < grid0.bound 1 := ⟨c.isLt, i.isLt⟩
  change _ ⊢ wp _ _ _ (Pipeline.liftProg (defs₀ (F := F) (.scVector ((scK (F := F)).core 0 c) ((scK (F := F)).sub 0 i)) 0 ())) _
  refine BI.Entails.trans ?_ (Pipeline.wp_liftProg (DP (F := F)) (Pipeline.defs_kernel pcfgs defs₀) 𝒱₀ _ Set.univ none _ _)
  rw [defs₀_vector]; simp only [SparseCore.onTile, hci, and_self, ↓reduceDIte]
  exact (tile_body E d (coordsV ⟨_, hci.1⟩ ⟨_, hci.2⟩) hF (hpre d) O W hO).trans (wp_mono frame _ _ fun _ => obl_post)

end Cert.Proof.KI

end
-- ==== Proof.KI.Region.lean ====
/-
  The TensorCore call's region: what its body leaves in the output window, as a function of the input windows'
  blocks; the body's triple at any grid point; the proof data of the pipeline at whatever contents `V` its arrays have
  when the region is entered; the region as a segment entered with those arrays and left with them at the
  contents after the last write-back.
-/
module

public import proofs.«01_k».proof.Proof.KI.Setup

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The TensorCore buffers' contents when the region is entered, core by core. -/
abbrev Entry (F : FTy → Type) : Type := (c : Dev nD) → (b : Ref sig .tc) → Buf (Elt F) ((c : Thread nD τ).loc b)

variable (V : Entry F)

/-! ## The input windows' blocks -/

/-- Window `w`'s block at point `t`, read off its array. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body leaves in the output window -/

/-- The whole of a 512x128 block. -/
abbrev all_S512x128 : Rect S512x128 := Rect.unit (s := S512x128) ![0, 0] S512x128.size inb_S512x128_S512x128_0_0
/-- The whole of a 512x1 block. -/
abbrev all_S512x1 : Rect S512x1 := Rect.unit (s := S512x1) ![0, 0] S512x1.size inb_S512x1_S512x1_0_0
/-- The whole of a 128x1024 block. -/
abbrev all_S128x1024 : Rect S128x1024 := Rect.unit (s := S128x1024) ![0, 0] S128x1024.size inb_S128x1024_S128x1024_0_0
/-- The whole of a 1x1024 block. -/
abbrev all_S1x1024 : Rect S1x1024 := Rect.unit (s := S1x1024) ![0, 0] S1x1024.size inb_S1x1024_S1x1024_0_0
/-- The whole of a 8x128 block. -/
abbrev all_S8x128 : Rect S8x128 := Rect.unit (s := S8x128) ![0, 0] S8x128.size inb_S8x128_S8x128_0_0
/-- The whole of a 1024x512 block. -/
abbrev all_S1024x512 : Rect S1024x512 := Rect.unit (s := S1024x512) ![0, 0] S1024x512.size inb_S1024x512_S1024x512_0_0
/-- The whole of a 1x512 block. -/
abbrev all_S1x512 : Rect S1x512 := Rect.unit (s := S1x512) ![0, 0] S1x512.size inb_S1x512_S1x512_0_0
/-- The whole of a 512x256 block. -/
abbrev all_S512x256 : Rect S512x256 := Rect.unit (s := S512x256) ![0, 0] S512x256.size inb_S512x256_S512x256_0_0
/-- The whole of a 1x256 block. -/
abbrev all_S1x256 : Rect S1x256 := Rect.unit (s := S1x256) ![0, 0] S1x256.size inb_S1x256_S1x256_0_0
/-- The whole of a 1x1 block. -/
abbrev all_S1x1 : Rect S1x1 := Rect.unit (s := S1x1) ![0, 0] S1x1.size inb_S1x1_S1x1_0_0

/-- The output block from the input blocks: the chain of the three hidden layers and the final product. -/
def outBlk (x0 : Vec F S512x128 .f32) (x1 : Vec F S512x128 .f32) (x2 : Vec F S512x1 .f32) (x3 : Vec F S512x1 .i32) (x4 : Vec F S128x1024 .f32) (x5 : Vec F S128x1024 .f32) (x6 : Vec F S1x1024 .f32) (x7 : Vec F S8x128 .f32) (x8 : Vec F S128x1024 .f32) (x9 : Vec F S1x1024 .f32) (x10 : Vec F S1x1024 .f32) (x11 : Vec F S1x1024 .f32) (x12 : Vec F S1x1024 .f32) (x13 : Vec F S1x1024 .f32) (x14 : Vec F S1024x512 .f32) (x15 : Vec F S1x512 .f32) (x16 : Vec F S1x512 .f32) (x17 : Vec F S1x512 .f32) (x18 : Vec F S1x512 .f32) (x19 : Vec F S1x512 .f32) (x20 : Vec F S512x256 .f32) (x21 : Vec F S1x256 .f32) (x22 : Vec F S1x256 .f32) (x23 : Vec F S1x256 .f32) (x24 : Vec F S1x256 .f32) (x25 : Vec F S1x256 .f32) (x26 : Vec F S1x256 .f32) (x27 : Vec F S1x1 .f32) : Vec F S512x1 .f32 :=
  View.canon [⟨all_S512x1, k1_pay1 (k1_pay7 (k1_pay3 (k1_pay2 (View.ld x0 all_S512x128) (View.ld x1 all_S512x128) (View.ld x4 all_S128x1024) (View.ld x5 all_S128x1024) (View.ld x2 all_S512x1) (View.ld x6 all_S1x1024) (View.ld x7 all_S8x128) (View.ld x8 all_S128x1024) (View.ld x3 all_S512x1)) (View.ld x9 all_S1x1024) (View.ld x12 all_S1x1024) (View.ld x10 all_S1x1024) (View.ld x13 all_S1x1024) (View.ld x11 all_S1x1024) (View.ld x14 all_S1024x512) (View.ld x15 all_S1x512) (View.ld x18 all_S1x512)) (k1_pay4 (View.ld x16 all_S1x512)) (k1_pay5 (View.ld x19 all_S1x512)) k1_pay6 (View.ld x17 all_S1x512) (View.ld x20 all_S512x256) (View.ld x21 all_S1x256) (View.ld x24 all_S1x256) (View.ld x22 all_S1x256) (View.ld x25 all_S1x256) (View.ld x23 all_S1x256)) (k1_pay8 (View.ld x26 all_S1x256)) (View.ld x27 all_S1x1)⟩]

/-- The one store covers the block. -/
theorem cover_out (p : Vec F S512x1 .f32) (y : S512x1.Idx) :
    ∃ pc ∈ ([⟨all_S512x1, p⟩] : List (View.Piece (Elt F) S512x1 .f32)), y ∈ pc.1.set :=
  View.cover_of_tiled [⟨all_S512x1, p⟩] S512x1.size (by rfl) y

/-! ## The body's triple -/

set_option maxHeartbeats 1000000 in
/-- The body on whole staging buffers, the inputs' at contents `x0` … `x27` and the output's at anything, ends with the
    inputs' as they were and the output's at `outBlk`. -/
theorem mlp_triple (c : Dev nD) (E : Set ℕ) (i : grid1.Coords) (arg1 : Memref sig .tc .vmem S512x128 .f32) (harg1 : arg1.IsWhole) (arg2 : Memref sig .tc .vmem S512x128 .f32) (harg2 : arg2.IsWhole) (arg3 : Memref sig .tc .vmem S512x1 .f32) (harg3 : arg3.IsWhole) (arg4 : Memref sig .tc .vmem S512x1 .i32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S1x1024 .f32) (harg7 : arg7.IsWhole) (arg8 : Memref sig .tc .vmem S8x128 .f32) (harg8 : arg8.IsWhole) (arg9 : Memref sig .tc .vmem S128x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S512x256 .f32) (harg21 : arg21.IsWhole) (arg22 : Memref sig .tc .vmem S1x256 .f32) (harg22 : arg22.IsWhole) (arg23 : Memref sig .tc .vmem S1x256 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S1x256 .f32) (harg26 : arg26.IsWhole) (arg27 : Memref sig .tc .vmem S1x256 .f32) (harg27 : arg27.IsWhole) (arg28 : Memref sig .tc .vmem S1x1 .f32) (harg28 : arg28.IsWhole) (arg29 : Memref sig .tc .vmem S512x1 .f32) (harg29 : arg29.IsWhole)
    (x0 : Vec F S512x128 .f32) (x1 : Vec F S512x128 .f32) (x2 : Vec F S512x1 .f32) (x3 : Vec F S512x1 .i32) (x4 : Vec F S128x1024 .f32) (x5 : Vec F S128x1024 .f32) (x6 : Vec F S1x1024 .f32) (x7 : Vec F S8x128 .f32) (x8 : Vec F S128x1024 .f32) (x9 : Vec F S1x1024 .f32) (x10 : Vec F S1x1024 .f32) (x11 : Vec F S1x1024 .f32) (x12 : Vec F S1x1024 .f32) (x13 : Vec F S1x1024 .f32) (x14 : Vec F S1024x512 .f32) (x15 : Vec F S1x512 .f32) (x16 : Vec F S1x512 .f32) (x17 : Vec F S1x512 .f32) (x18 : Vec F S1x512 .f32) (x19 : Vec F S1x512 .f32) (x20 : Vec F S512x256 .f32) (x21 : Vec F S1x256 .f32) (x22 : Vec F S1x256 .f32) (x23 : Vec F S1x256 .f32) (x24 : Vec F S1x256 .f32) (x25 : Vec F S1x256 .f32) (x26 : Vec F S1x256 .f32) (x27 : Vec F S1x1 .f32) (Kp : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ (∃ d, owns (c : Thread nD τ) arg29 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare (outBlk x0 x1 x2 x3 x4 x5 x6 x7 x8 x9 x10 x11 x12 x13 x14 x15 x16 x17 x18 x19 x20 x21 x22 x23 x24 x25 x26 x27)) -∗ Kp ⟨⟩))
      ⊢ wp frame (wpE (defs₀ (F := F)) Variants.none c none) E (cc1__mlp_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) Kp := by
  simp only [cc1__mlp_body_eq_skeleton]; unfold cc1__mlp_body_skel
  simp only [k1_part3_eq_skeleton, k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%d28, %f28, -, H28⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  iexists _; isplitr
  swap; · iexact H28
  ipureintro
  exact View.read_writes_eq_canon _ _ _ (cover_out _)

/-! ## The pipeline's proof data -/

/-- The output block at point `t`. -/
def outAt (c : Dev nD) (t : Fin cfg1.N) : Vec F S512x1 .f32 :=
  outBlk (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) (iblk V c 17 t) (iblk V c 18 t) (iblk V c 19 t) (iblk V c 20 t) (iblk V c 21 t) (iblk V c 22 t) (iblk V c 23 t) (iblk V c 24 t) (iblk V c 25 t) (iblk V c 26 t) (iblk V c 27 t)

/-- The proof data: the arrays at `V`; each point leaves the input blocks in place and the output block at `outAt`;
    nothing of the body's own between the points; nothing owed. -/
def dat (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => iblk V c 15 t
    | ⟨16, _⟩ => iblk V c 16 t
    | ⟨17, _⟩ => iblk V c 17 t
    | ⟨18, _⟩ => iblk V c 18 t
    | ⟨19, _⟩ => iblk V c 19 t
    | ⟨20, _⟩ => iblk V c 20 t
    | ⟨21, _⟩ => iblk V c 21 t
    | ⟨22, _⟩ => iblk V c 22 t
    | ⟨23, _⟩ => iblk V c 23 t
    | ⟨24, _⟩ => iblk V c 24 t
    | ⟨25, _⟩ => iblk V c 25 t
    | ⟨26, _⟩ => iblk V c 26 t
    | ⟨27, _⟩ => iblk V c 27 t
    | ⟨28, _⟩ => outAt V c t
    | ⟨_ + 29, h⟩ => absurd h (Nat.not_lt.2 (Nat.le_add_left _ _))
  Φ _ := Pipeline.scopedRest (Ix := HIx 1) (Name := ℕ) (U := UU) (Lvl := ℕ) (Val := Elt F) spec1 c
  q _ := fullShare
  owed _ := 0
  recorded _ := {p | (scK (F := F)).lev (SparseCore.T c, p.1) p.2 ≤ 8}

/-- The arrays' entry contents are `V`'s. -/
theorem dat_A (c : Dev nD) (w : Fin cfg1.W) : (dat V c).A w = V c (Pipeline.arrRef spec1 w) := by
  dsimp only [dat]

/-- An input window that every point leaves at its block holds its block when a point begins, fetched there or not. -/
theorem before_blk (c : Dev nD) (w : Fin cfg1.W) (hin : (cfg1.win w).isOut = false) (hidle : ∀ i, cfg1.idle w i = false)
    (hclip : ∀ t t' : Fin cfg1.N, (cfg1.win w).index t = (cfg1.win w).index t' →
      (cfg1.win w).clip (cfg1.grid.coords t) = (cfg1.win w).clip (cfg1.grid.coords t'))
    (hkeep : ∀ t, (cfg1.win w).cut (cfg1.grid.coords t) ((dat V c).after w t) = iblk V c w t)
    (t : Fin cfg1.N) (d) : (dat V c).before w t d = (dat V c).fetched w t d :=
  (dat V c).before_in_eq_fetched w hin hidle hclip (fun t => (hkeep t).trans (by unfold Dat.blockOf iblk; rw [dat_A])) t d

/-- Window 0's buffer when the body starts at a point: its block there. -/
theorem before_0 (c : Dev nD) (t : Fin cfg1.N) (d) : (dat V c).before 0 t d = iblk V c 0 t :=
  (before_blk V c 0 rfl (fun _ => rfl) (fun _ _ _ => rfl) (fun _ => rfl) t d).trans
    (by unfold Dat.fetched Dat.blockOf iblk; rw [dat_A]; try rfl)
/-- Window 1's buffer when the body starts at a point: its block there. -/
theorem before_1 (c : Dev nD) (t : Fin cfg1.N) (d) : (dat V c).before 1 t d = iblk V c 1 t :=
  (before_blk V c 1 rfl (fun _ => rfl) (fun _ _ _ => rfl) (fun _ => rfl) t d).trans
    (by unfold Dat.fetched Dat.blockOf iblk; rw [dat_A]; try rfl)
/-- Window 2's buffer when the body starts at a point: its block there. -/
theorem before_2 (c : Dev nD) (t : Fin cfg1.N) (d) : (dat V c).before 2 t d = iblk V c 2 t :=
  (before_blk V c 2 rfl (fun _ => rfl) (fun _ _ _ => rfl) (fun _ => rfl) t d).trans
    (by unfold Dat.fetched Dat.blockOf iblk; rw [dat_A]; try rfl)
/-- Window 3's buffer when the body starts at a point: its block there. -/
theorem before_3 (c : Dev nD) (t : Fin cfg1.N) (d) : (dat V c).before 3 t d = iblk V c 3 t :=
  (before_blk V c 3 rfl (fun _ => rfl) (fun _ _ _ => rfl) (fun _ => rfl) t d).trans
    (by unfold Dat.fetched Dat.blockOf iblk; rw [dat_A]; try rfl)
/-- Window 4's buffer when the body starts at a point: its block there. -/
theorem before_4 (c : Dev nD) (t : Fin cfg1.N) (d) : (dat V c).before 4 t d = iblk V c 4 t :=
  (before_blk V c 4 rfl (fun _ => rfl) (fun _ _ _ => rfl) (fun _ => rfl) t d).trans
    (by unfold Dat.fetched Dat.blockOf iblk; rw [dat_A]; try rfl)
/-- Window 5's buffer when the body starts at a point: its block there. -/
theorem before_5 (c : Dev nD) (t : Fin cfg1.N) (d) : (dat V c).before 5 t d = iblk V c 5 t :=
  (before_blk V c 5 rfl (fun _ => rfl) (fun _ _ _ => rfl) (fun _ => rfl) t d).trans
    (by unfold Dat.fetched Dat.blockOf iblk; rw [dat_A]; try rfl)
/-- Window 6's buffer when the body starts at a point: its block there. -/
theorem before_6 (c : Dev nD) (t : Fin cfg1.N) (d) : (dat V c).before 6 t d = iblk V c 6 t :=
  (before_blk V c 6 rfl (fun _ => rfl) (fun _ _ _ => rfl) (fun _ => rfl) t d).trans
    (by unfold Dat.fetched Dat.blockOf iblk; rw [dat_A]; try rfl)
/-- Window 7's buffer when the body starts at a point: its block there. -/
theorem before_7 (c : Dev nD) (t : Fin cfg1.N) (d) : (dat V c).before 7 t d = iblk V c 7 t :=
  (before_blk V c 7 rfl (fun _ => rfl) (fun _ _ _ => rfl) (fun _ => rfl) t d).trans
    (by unfold Dat.fetched Dat.blockOf iblk; rw [dat_A]; try rfl)
/-- Window 8's buffer when the body starts at a point: its block there. -/
theorem before_8 (c : Dev nD) (t : Fin cfg1.N) (d) : (dat V c).before 8 t d = iblk V c 8 t :=
  (before_blk V c 8 rfl (fun _ => rfl) (fun _ _ _ => rfl) (fun _ => rfl) t d).trans
    (by unfold Dat.fetched Dat.blockOf iblk; rw [dat_A]; try rfl)
/-- Window 9's buffer when the body starts at a point: its block there. -/
theorem before_9 (c : Dev nD) (t : Fin cfg1.N) (d) : (dat V c).before 9 t d = iblk V c 9 t :=
  (before_blk V c 9 rfl (fun _ => rfl) (fun _ _ _ => rfl) (fun _ => rfl) t d).trans
    (by unfold Dat.fetched Dat.blockOf iblk; rw [dat_A]; try rfl)
/-- Window 10's buffer when the body starts at a point: its block there. -/
theorem before_10 (c : Dev nD) (t : Fin cfg1.N) (d) : (dat V c).before 10 t d = iblk V c 10 t :=
  (before_blk V c 10 rfl (fun _ => rfl) (fun _ _ _ => rfl) (fun _ => rfl) t d).trans
    (by unfold Dat.fetched Dat.blockOf iblk; rw [dat_A]; try rfl)
/-- Window 11's buffer when the body starts at a point: its block there. -/
theorem before_11 (c : Dev nD) (t : Fin cfg1.N) (d) : (dat V c).before 11 t d = iblk V c 11 t :=
  (before_blk V c 11 rfl (fun _ => rfl) (fun _ _ _ => rfl) (fun _ => rfl) t d).trans
    (by unfold Dat.fetched Dat.blockOf iblk; rw [dat_A]; try rfl)
/-- Window 12's buffer when the body starts at a point: its block there. -/
theorem before_12 (c : Dev nD) (t : Fin cfg1.N) (d) : (dat V c).before 12 t d = iblk V c 12 t :=
  (before_blk V c 12 rfl (fun _ => rfl) (fun _ _ _ => rfl) (fun _ => rfl) t d).trans
    (by unfold Dat.fetched Dat.blockOf iblk; rw [dat_A]; try rfl)
/-- Window 13's buffer when the body starts at a point: its block there. -/
theorem before_13 (c : Dev nD) (t : Fin cfg1.N) (d) : (dat V c).before 13 t d = iblk V c 13 t :=
  (before_blk V c 13 rfl (fun _ => rfl) (fun _ _ _ => rfl) (fun _ => rfl) t d).trans
    (by unfold Dat.fetched Dat.blockOf iblk; rw [dat_A]; try rfl)
/-- Window 14's buffer when the body starts at a point: its block there. -/
theorem before_14 (c : Dev nD) (t : Fin cfg1.N) (d) : (dat V c).before 14 t d = iblk V c 14 t :=
  (before_blk V c 14 rfl (fun _ => rfl) (fun _ _ _ => rfl) (fun _ => rfl) t d).trans
    (by unfold Dat.fetched Dat.blockOf iblk; rw [dat_A]; try rfl)
/-- Window 15's buffer when the body starts at a point: its block there. -/
theorem before_15 (c : Dev nD) (t : Fin cfg1.N) (d) : (dat V c).before 15 t d = iblk V c 15 t :=
  (before_blk V c 15 rfl (fun _ => rfl) (fun _ _ _ => rfl) (fun _ => rfl) t d).trans
    (by unfold Dat.fetched Dat.blockOf iblk; rw [dat_A]; try rfl)
/-- Window 16's buffer when the body starts at a point: its block there. -/
theorem before_16 (c : Dev nD) (t : Fin cfg1.N) (d) : (dat V c).before 16 t d = iblk V c 16 t :=
  (before_blk V c 16 rfl (fun _ => rfl) (fun _ _ _ => rfl) (fun _ => rfl) t d).trans
    (by unfold Dat.fetched Dat.blockOf iblk; rw [dat_A]; try rfl)
/-- Window 17's buffer when the body starts at a point: its block there. -/
theorem before_17 (c : Dev nD) (t : Fin cfg1.N) (d) : (dat V c).before 17 t d = iblk V c 17 t :=
  (before_blk V c 17 rfl (fun _ => rfl) (fun _ _ _ => rfl) (fun _ => rfl) t d).trans
    (by unfold Dat.fetched Dat.blockOf iblk; rw [dat_A]; try rfl)
/-- Window 18's buffer when the body starts at a point: its block there. -/
theorem before_18 (c : Dev nD) (t : Fin cfg1.N) (d) : (dat V c).before 18 t d = iblk V c 18 t :=
  (before_blk V c 18 rfl (fun _ => rfl) (fun _ _ _ => rfl) (fun _ => rfl) t d).trans
    (by unfold Dat.fetched Dat.blockOf iblk; rw [dat_A]; try rfl)
/-- Window 19's buffer when the body starts at a point: its block there. -/
theorem before_19 (c : Dev nD) (t : Fin cfg1.N) (d) : (dat V c).before 19 t d = iblk V c 19 t :=
  (before_blk V c 19 rfl (fun _ => rfl) (fun _ _ _ => rfl) (fun _ => rfl) t d).trans
    (by unfold Dat.fetched Dat.blockOf iblk; rw [dat_A]; try rfl)
/-- Window 20's buffer when the body starts at a point: its block there. -/
theorem before_20 (c : Dev nD) (t : Fin cfg1.N) (d) : (dat V c).before 20 t d = iblk V c 20 t :=
  (before_blk V c 20 rfl (fun _ => rfl) (fun _ _ _ => rfl) (fun _ => rfl) t d).trans
    (by unfold Dat.fetched Dat.blockOf iblk; rw [dat_A]; try rfl)
/-- Window 21's buffer when the body starts at a point: its block there. -/
theorem before_21 (c : Dev nD) (t : Fin cfg1.N) (d) : (dat V c).before 21 t d = iblk V c 21 t :=
  (before_blk V c 21 rfl (fun _ => rfl) (fun _ _ _ => rfl) (fun _ => rfl) t d).trans
    (by unfold Dat.fetched Dat.blockOf iblk; rw [dat_A]; try rfl)
/-- Window 22's buffer when the body starts at a point: its block there. -/
theorem before_22 (c : Dev nD) (t : Fin cfg1.N) (d) : (dat V c).before 22 t d = iblk V c 22 t :=
  (before_blk V c 22 rfl (fun _ => rfl) (fun _ _ _ => rfl) (fun _ => rfl) t d).trans
    (by unfold Dat.fetched Dat.blockOf iblk; rw [dat_A]; try rfl)
/-- Window 23's buffer when the body starts at a point: its block there. -/
theorem before_23 (c : Dev nD) (t : Fin cfg1.N) (d) : (dat V c).before 23 t d = iblk V c 23 t :=
  (before_blk V c 23 rfl (fun _ => rfl) (fun _ _ _ => rfl) (fun _ => rfl) t d).trans
    (by unfold Dat.fetched Dat.blockOf iblk; rw [dat_A]; try rfl)
/-- Window 24's buffer when the body starts at a point: its block there. -/
theorem before_24 (c : Dev nD) (t : Fin cfg1.N) (d) : (dat V c).before 24 t d = iblk V c 24 t :=
  (before_blk V c 24 rfl (fun _ => rfl) (fun _ _ _ => rfl) (fun _ => rfl) t d).trans
    (by unfold Dat.fetched Dat.blockOf iblk; rw [dat_A]; try rfl)
/-- Window 25's buffer when the body starts at a point: its block there. -/
theorem before_25 (c : Dev nD) (t : Fin cfg1.N) (d) : (dat V c).before 25 t d = iblk V c 25 t :=
  (before_blk V c 25 rfl (fun _ => rfl) (fun _ _ _ => rfl) (fun _ => rfl) t d).trans
    (by unfold Dat.fetched Dat.blockOf iblk; rw [dat_A]; try rfl)
/-- Window 26's buffer when the body starts at a point: its block there. -/
theorem before_26 (c : Dev nD) (t : Fin cfg1.N) (d) : (dat V c).before 26 t d = iblk V c 26 t :=
  (before_blk V c 26 rfl (fun _ => rfl) (fun _ _ _ => rfl) (fun _ => rfl) t d).trans
    (by unfold Dat.fetched Dat.blockOf iblk; rw [dat_A]; try rfl)
/-- Window 27's buffer when the body starts at a point: its block there. -/
theorem before_27 (c : Dev nD) (t : Fin cfg1.N) (d) : (dat V c).before 27 t d = iblk V c 27 t :=
  (before_blk V c 27 rfl (fun _ => rfl) (fun _ _ _ => rfl) (fun _ => rfl) t d).trans
    (by unfold Dat.fetched Dat.blockOf iblk; rw [dat_A]; try rfl)
/-- Window 0's buffer when the body is done: its block still. -/
theorem after_0 (c : Dev nD) (t : Fin cfg1.N) : (dat V c).after 0 t = iblk V c 0 t := rfl
/-- Window 1's buffer when the body is done: its block still. -/
theorem after_1 (c : Dev nD) (t : Fin cfg1.N) : (dat V c).after 1 t = iblk V c 1 t := rfl
/-- Window 2's buffer when the body is done: its block still. -/
theorem after_2 (c : Dev nD) (t : Fin cfg1.N) : (dat V c).after 2 t = iblk V c 2 t := rfl
/-- Window 3's buffer when the body is done: its block still. -/
theorem after_3 (c : Dev nD) (t : Fin cfg1.N) : (dat V c).after 3 t = iblk V c 3 t := rfl
/-- Window 4's buffer when the body is done: its block still. -/
theorem after_4 (c : Dev nD) (t : Fin cfg1.N) : (dat V c).after 4 t = iblk V c 4 t := rfl
/-- Window 5's buffer when the body is done: its block still. -/
theorem after_5 (c : Dev nD) (t : Fin cfg1.N) : (dat V c).after 5 t = iblk V c 5 t := rfl
/-- Window 6's buffer when the body is done: its block still. -/
theorem after_6 (c : Dev nD) (t : Fin cfg1.N) : (dat V c).after 6 t = iblk V c 6 t := rfl
/-- Window 7's buffer when the body is done: its block still. -/
theorem after_7 (c : Dev nD) (t : Fin cfg1.N) : (dat V c).after 7 t = iblk V c 7 t := rfl
/-- Window 8's buffer when the body is done: its block still. -/
theorem after_8 (c : Dev nD) (t : Fin cfg1.N) : (dat V c).after 8 t = iblk V c 8 t := rfl
/-- Window 9's buffer when the body is done: its block still. -/
theorem after_9 (c : Dev nD) (t : Fin cfg1.N) : (dat V c).after 9 t = iblk V c 9 t := rfl
/-- Window 10's buffer when the body is done: its block still. -/
theorem after_10 (c : Dev nD) (t : Fin cfg1.N) : (dat V c).after 10 t = iblk V c 10 t := rfl
/-- Window 11's buffer when the body is done: its block still. -/
theorem after_11 (c : Dev nD) (t : Fin cfg1.N) : (dat V c).after 11 t = iblk V c 11 t := rfl
/-- Window 12's buffer when the body is done: its block still. -/
theorem after_12 (c : Dev nD) (t : Fin cfg1.N) : (dat V c).after 12 t = iblk V c 12 t := rfl
/-- Window 13's buffer when the body is done: its block still. -/
theorem after_13 (c : Dev nD) (t : Fin cfg1.N) : (dat V c).after 13 t = iblk V c 13 t := rfl
/-- Window 14's buffer when the body is done: its block still. -/
theorem after_14 (c : Dev nD) (t : Fin cfg1.N) : (dat V c).after 14 t = iblk V c 14 t := rfl
/-- Window 15's buffer when the body is done: its block still. -/
theorem after_15 (c : Dev nD) (t : Fin cfg1.N) : (dat V c).after 15 t = iblk V c 15 t := rfl
/-- Window 16's buffer when the body is done: its block still. -/
theorem after_16 (c : Dev nD) (t : Fin cfg1.N) : (dat V c).after 16 t = iblk V c 16 t := rfl
/-- Window 17's buffer when the body is done: its block still. -/
theorem after_17 (c : Dev nD) (t : Fin cfg1.N) : (dat V c).after 17 t = iblk V c 17 t := rfl
/-- Window 18's buffer when the body is done: its block still. -/
theorem after_18 (c : Dev nD) (t : Fin cfg1.N) : (dat V c).after 18 t = iblk V c 18 t := rfl
/-- Window 19's buffer when the body is done: its block still. -/
theorem after_19 (c : Dev nD) (t : Fin cfg1.N) : (dat V c).after 19 t = iblk V c 19 t := rfl
/-- Window 20's buffer when the body is done: its block still. -/
theorem after_20 (c : Dev nD) (t : Fin cfg1.N) : (dat V c).after 20 t = iblk V c 20 t := rfl
/-- Window 21's buffer when the body is done: its block still. -/
theorem after_21 (c : Dev nD) (t : Fin cfg1.N) : (dat V c).after 21 t = iblk V c 21 t := rfl
/-- Window 22's buffer when the body is done: its block still. -/
theorem after_22 (c : Dev nD) (t : Fin cfg1.N) : (dat V c).after 22 t = iblk V c 22 t := rfl
/-- Window 23's buffer when the body is done: its block still. -/
theorem after_23 (c : Dev nD) (t : Fin cfg1.N) : (dat V c).after 23 t = iblk V c 23 t := rfl
/-- Window 24's buffer when the body is done: its block still. -/
theorem after_24 (c : Dev nD) (t : Fin cfg1.N) : (dat V c).after 24 t = iblk V c 24 t := rfl
/-- Window 25's buffer when the body is done: its block still. -/
theorem after_25 (c : Dev nD) (t : Fin cfg1.N) : (dat V c).after 25 t = iblk V c 25 t := rfl
/-- Window 26's buffer when the body is done: its block still. -/
theorem after_26 (c : Dev nD) (t : Fin cfg1.N) : (dat V c).after 26 t = iblk V c 26 t := rfl
/-- Window 27's buffer when the body is done: its block still. -/
theorem after_27 (c : Dev nD) (t : Fin cfg1.N) : (dat V c).after 27 t = iblk V c 27 t := rfl
/-- Window 28's buffer when the body is done: the point's result. -/
theorem after_28 (c : Dev nD) (t : Fin cfg1.N) : (dat V c).after 28 t = outAt V c t := rfl

/-! ## The body at any point -/

/-- What a point begins with, the windows one by one, -/
def ptPre (c : Dev nD) (t : Fin cfg1.N) : sProp 𝕄 :=
  iprop((dat V c).Φ t.castSucc ∗ (dat V c).owesAt none t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d))
    ∗ (∃ d, owns (c : Thread nD τ) (st1_12 t) fullShare ((dat V c).before 12 t d))
    ∗ (∃ d, owns (c : Thread nD τ) (st1_13 t) fullShare ((dat V c).before 13 t d))
    ∗ (∃ d, owns (c : Thread nD τ) (st1_14 t) fullShare ((dat V c).before 14 t d))
    ∗ (∃ d, owns (c : Thread nD τ) (st1_15 t) fullShare ((dat V c).before 15 t d))
    ∗ (∃ d, owns (c : Thread nD τ) (st1_16 t) fullShare ((dat V c).before 16 t d))
    ∗ (∃ d, owns (c : Thread nD τ) (st1_17 t) fullShare ((dat V c).before 17 t d))
    ∗ (∃ d, owns (c : Thread nD τ) (st1_18 t) fullShare ((dat V c).before 18 t d))
    ∗ (∃ d, owns (c : Thread nD τ) (st1_19 t) fullShare ((dat V c).before 19 t d))
    ∗ (∃ d, owns (c : Thread nD τ) (st1_20 t) fullShare ((dat V c).before 20 t d))
    ∗ (∃ d, owns (c : Thread nD τ) (st1_21 t) fullShare ((dat V c).before 21 t d))
    ∗ (∃ d, owns (c : Thread nD τ) (st1_22 t) fullShare ((dat V c).before 22 t d))
    ∗ (∃ d, owns (c : Thread nD τ) (st1_23 t) fullShare ((dat V c).before 23 t d))
    ∗ (∃ d, owns (c : Thread nD τ) (st1_24 t) fullShare ((dat V c).before 24 t d))
    ∗ (∃ d, owns (c : Thread nD τ) (st1_25 t) fullShare ((dat V c).before 25 t d))
    ∗ (∃ d, owns (c : Thread nD τ) (st1_26 t) fullShare ((dat V c).before 26 t d))
    ∗ (∃ d, owns (c : Thread nD τ) (st1_27 t) fullShare ((dat V c).before 27 t d))
    ∗ (∃ d, owns (c : Thread nD τ) (st1_28 t) fullShare ((dat V c).before 28 t d)))

/-- and what it leaves. -/
def ptPost (c : Dev nD) (t : Fin cfg1.N) : sProp 𝕄 :=
  iprop((dat V c).Φ t.succ ∗ (dat V c).owesAt none t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t)
    ∗ owns (c : Thread nD τ) (st1_11 t) fullShare ((dat V c).after 11 t)
    ∗ owns (c : Thread nD τ) (st1_12 t) fullShare ((dat V c).after 12 t)
    ∗ owns (c : Thread nD τ) (st1_13 t) fullShare ((dat V c).after 13 t)
    ∗ owns (c : Thread nD τ) (st1_14 t) fullShare ((dat V c).after 14 t)
    ∗ owns (c : Thread nD τ) (st1_15 t) fullShare ((dat V c).after 15 t)
    ∗ owns (c : Thread nD τ) (st1_16 t) fullShare ((dat V c).after 16 t)
    ∗ owns (c : Thread nD τ) (st1_17 t) fullShare ((dat V c).after 17 t)
    ∗ owns (c : Thread nD τ) (st1_18 t) fullShare ((dat V c).after 18 t)
    ∗ owns (c : Thread nD τ) (st1_19 t) fullShare ((dat V c).after 19 t)
    ∗ owns (c : Thread nD τ) (st1_20 t) fullShare ((dat V c).after 20 t)
    ∗ owns (c : Thread nD τ) (st1_21 t) fullShare ((dat V c).after 21 t)
    ∗ owns (c : Thread nD τ) (st1_22 t) fullShare ((dat V c).after 22 t)
    ∗ owns (c : Thread nD τ) (st1_23 t) fullShare ((dat V c).after 23 t)
    ∗ owns (c : Thread nD τ) (st1_24 t) fullShare ((dat V c).after 24 t)
    ∗ owns (c : Thread nD τ) (st1_25 t) fullShare ((dat V c).after 25 t)
    ∗ owns (c : Thread nD τ) (st1_26 t) fullShare ((dat V c).after 26 t)
    ∗ owns (c : Thread nD τ) (st1_27 t) fullShare ((dat V c).after 27 t)
    ∗ owns (c : Thread nD τ) (st1_28 t) fullShare ((dat V c).after 28 t))

set_option maxHeartbeats 1000000 in
/-- A point's triple: the inputs hold their blocks, so the body's triple applies. -/
theorem pt_triple (c : Dev nD) (t : Fin cfg1.N) :
    ptPre V c t ⊢ wp frame (wpE (defs₀ (F := F)) Variants.none c none) Set.univ (bodyAt1 t) (fun _ => ptPost V c t) := by
  unfold ptPre ptPost bodyAt1
  simp only [before_0, before_1, before_2, before_3, before_4, before_5, before_6, before_7, before_8, before_9, before_10, before_11, before_12, before_13, before_14, before_15, before_16, before_17, before_18, before_19, before_20, before_21, before_22, before_23, before_24, before_25, before_26, before_27]
  rw [show (dat V c).Φ t.succ = (dat V c).Φ t.castSucc from rfl,
    show (dat V c).owesAt none t.succ = (dat V c).owesAt none t.castSucc from rfl,
    after_28
    , after_0
    , after_1
    , after_2
    , after_3
    , after_4
    , after_5
    , after_6
    , after_7
    , after_8
    , after_9
    , after_10
    , after_11
    , after_12
    , after_13
    , after_14
    , after_15
    , after_16
    , after_17
    , after_18
    , after_19
    , after_20
    , after_21
    , after_22
    , after_23
    , after_24
    , after_25
    , after_26
    , after_27
    ]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply (mlp_triple c Set.univ (grid1.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) (iblk V c 17 t) (iblk V c 18 t) (iblk V c 19 t) (iblk V c 20 t) (iblk V c 21 t) (iblk V c 22 t) (iblk V c 23 t) (iblk V c 24 t) (iblk V c 25 t) (iblk V c 26 t) (iblk V c 27 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexists _; iexact H28
  iintro ⟨H0, H1, H2, H3, H4, H5, H6, H7, H8, H9, H10, H11, H12, H13, H14, H15, H16, H17, H18, H19, H20, H21, H22, H23, H24, H25, H26, H27, H28⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  unfold outAt; iexact H28

/-- The table's row for the body, at point `t`'s staging buffers. -/
theorem defs₀_mlp (t : Fin cfg1.N) :
    defs₀ (F := F) .tc cfg1.body (cfg1.bodyArgs t (cfg1.slots t)) = bodyAt1 t := rfl

set_option maxHeartbeats 1000000 in
/-- The pipeline's obligation on the body, at every point. -/
theorem body_obl (c : Dev nD) : BodyObligation (dat V c) (defs₀ (F := F)) Variants.none none Set.univ := fun t => by
  rw [bigSep_W1, bigSep_W1, defs₀_mlp]
  exact triple_restated (pt_triple V c t) rfl .rfl fun _ => .rfl

end Cert.Proof.KI

end
-- ==== Proof.KI.Host.lean ====
/-
  The host's lines of the program around its two calls, and what each buffer holds between them: the two id vectors
  reshaped before the SparseCore call; the weights sliced, padded and reshaped between that call and the TensorCore's.
-/
module

public import proofs.«01_k».proof.Proof.KI.Call
public import proofs.«01_k».proof.Proof.KI.Region
public import Idealize.ShloMosaic.Lib.Pipeline.FrameTail
public import Idealize.ShloMosaic.Lib.Pipeline.RegionArraysS

@[expose] public section

noncomputable section

namespace Cert.Proof.KI

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.Sem
open Idealize.ShloMosaic.Rounds

variable {F : FTy → Type} [FloatOps F]

/-! ## The lines -/

/-- The host's lines before the SparseCore call: the ids as 128 rows of 128. -/
def opsA : List (HloOp τ sig (Elt F)) := [
  StableHlo.reshape main_arg0 main_v0 (rfl : (.i32 : EltTy) = .i32) shapeCasts_S16384_S128x128,
  StableHlo.reshape main_arg1 main_v1 (rfl : (.i32 : EltTy) = .i32) shapeCasts_S16384_S128x128]

/-- The host's lines between the two calls: the first layer's weights taken apart by the source of their rows, the small
    matrices padded with zeros, the vectors as one row each. -/
def opsB : List (HloOp τ sig (Elt F)) := [
  StableHlo.unary main_arg7 main_v3 ((extractStridedSlice S128x1024 ![0, 0] · slices_S261x1024_S128x1024_0_0) : (⟨S261x1024, .f32⟩ : BufTy).Contents (Elt F) → (⟨S128x1024, .f32⟩ : BufTy).Contents (Elt F)),
  StableHlo.unary main_arg7 main_v4 ((extractStridedSlice S128x1024 ![128, 0] · slices_S261x1024_S128x1024_128_0) : (⟨S261x1024, .f32⟩ : BufTy).Contents (Elt F) → (⟨S128x1024, .f32⟩ : BufTy).Contents (Elt F)),
  StableHlo.unary main_arg7 main_v5 ((extractStridedSlice S1x1024 ![256, 0] · slices_S261x1024_S1x1024_256_0) : (⟨S261x1024, .f32⟩ : BufTy).Contents (Elt F) → (⟨S1x1024, .f32⟩ : BufTy).Contents (Elt F)),
  StableHlo.nullary main_cst (constant S_ .f32 0x00000000#32),
  StableHlo.unary main_cst main_v6 (broadcastInDim S128x1024 ![] bcast_S_S128x1024 : (⟨S_, .f32⟩ : BufTy).Contents (Elt F) → (⟨S128x1024, .f32⟩ : BufTy).Contents (Elt F)),
  StableHlo.unary main_arg7 main_v7 ((extractStridedSlice S4x1024 ![257, 0] · slices_S261x1024_S4x1024_257_0) : (⟨S261x1024, .f32⟩ : BufTy).Contents (Elt F) → (⟨S4x1024, .f32⟩ : BufTy).Contents (Elt F)),
  StableHlo.nullary main_c (constantI S_ 32 0#32),
  StableHlo.unary main_c main_v8 (broadcastInDim S1 ![] bcast_S_S1 : (⟨S_, .i32⟩ : BufTy).Contents (Elt F) → (⟨S1, .i32⟩ : BufTy).Contents (Elt F)),
  StableHlo.ternary main_v6 main_v8 main_v7 main_v9 ((fun x i u => Host.scatter scatter_S128x1024_S1_S4x1024_01_n_0_0 (fun _ b => b) x i u) : (⟨S128x1024, .f32⟩ : BufTy).Contents (Elt F) → (⟨S1, .i32⟩ : BufTy).Contents (Elt F) → (⟨S4x1024, .f32⟩ : BufTy).Contents (Elt F) → (⟨S128x1024, .f32⟩ : BufTy).Contents (Elt F)),
  StableHlo.nullary main_cst_0 (constant S_ .f32 0x00000000#32),
  StableHlo.unary main_cst_0 main_v10 (broadcastInDim S8x128 ![] bcast_S_S8x128 : (⟨S_, .f32⟩ : BufTy).Contents (Elt F) → (⟨S8x128, .f32⟩ : BufTy).Contents (Elt F)),
  StableHlo.nullary main_c_1 (constantI S_ 32 0#32),
  StableHlo.unary main_c_1 main_v11 (broadcastInDim S1 ![] bcast_S_S1 : (⟨S_, .i32⟩ : BufTy).Contents (Elt F) → (⟨S1, .i32⟩ : BufTy).Contents (Elt F)),
  StableHlo.nullary main_c_2 (constantI S_ 32 0#32),
  StableHlo.unary main_c_2 main_v12 (broadcastInDim S1 ![] bcast_S_S1 : (⟨S_, .i32⟩ : BufTy).Contents (Elt F) → (⟨S1, .i32⟩ : BufTy).Contents (Elt F)),
  StableHlo.binary main_v11 main_v12 main_v13 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
  StableHlo.ternary main_v10 main_v13 main_arg6 main_v14 ((fun x i u => Host.scatter scatter_S8x128_S2_S7x4_01_n_01_0 (fun _ b => b) x i u) : (⟨S8x128, .f32⟩ : BufTy).Contents (Elt F) → (⟨S2, .i32⟩ : BufTy).Contents (Elt F) → (⟨S7x4, .f32⟩ : BufTy).Contents (Elt F) → (⟨S8x128, .f32⟩ : BufTy).Contents (Elt F)),
  StableHlo.reshape main_arg2 main_v15 (rfl : (.f32 : EltTy) = .f32) shapeCasts_S16384_S16384x1,
  StableHlo.reshape main_arg3 main_v16 (rfl : (.i32 : EltTy) = .i32) shapeCasts_S16384_S16384x1,
  StableHlo.reshape main_arg8 main_v17 (rfl : (.f32 : EltTy) = .f32) shapeCasts_S1024_S1x1024,
  StableHlo.reshape main_arg9 main_v18 (rfl : (.f32 : EltTy) = .f32) shapeCasts_S1024_S1x1024,
  StableHlo.reshape main_arg10 main_v19 (rfl : (.f32 : EltTy) = .f32) shapeCasts_S1024_S1x1024,
  StableHlo.reshape main_arg11 main_v20 (rfl : (.f32 : EltTy) = .f32) shapeCasts_S1024_S1x1024,
  StableHlo.reshape main_arg12 main_v21 (rfl : (.f32 : EltTy) = .f32) shapeCasts_S1024_S1x1024,
  StableHlo.reshape main_arg14 main_v22 (rfl : (.f32 : EltTy) = .f32) shapeCasts_S512_S1x512,
  StableHlo.reshape main_arg15 main_v23 (rfl : (.f32 : EltTy) = .f32) shapeCasts_S512_S1x512,
  StableHlo.reshape main_arg16 main_v24 (rfl : (.f32 : EltTy) = .f32) shapeCasts_S512_S1x512,
  StableHlo.reshape main_arg17 main_v25 (rfl : (.f32 : EltTy) = .f32) shapeCasts_S512_S1x512,
  StableHlo.reshape main_arg18 main_v26 (rfl : (.f32 : EltTy) = .f32) shapeCasts_S512_S1x512,
  StableHlo.reshape main_arg20 main_v27 (rfl : (.f32 : EltTy) = .f32) shapeCasts_S256_S1x256,
  StableHlo.reshape main_arg21 main_v28 (rfl : (.f32 : EltTy) = .f32) shapeCasts_S256_S1x256,
  StableHlo.reshape main_arg22 main_v29 (rfl : (.f32 : EltTy) = .f32) shapeCasts_S256_S1x256,
  StableHlo.reshape main_arg23 main_v30 (rfl : (.f32 : EltTy) = .f32) shapeCasts_S256_S1x256,
  StableHlo.reshape main_arg24 main_v31 (rfl : (.f32 : EltTy) = .f32) shapeCasts_S256_S1x256,
  StableHlo.reshape main_arg25 main_v32 (rfl : (.f32 : EltTy) = .f32) shapeCasts_S256x1_S1x256,
  StableHlo.reshape main_arg26 main_v33 (rfl : (.f32 : EltTy) = .f32) shapeCasts_S1_S1x1]

/-- The buffers the first lines write, -/
def wrA : List (Ref sig .tc) := [main_v0, main_v1]
/-- and those the later lines write. -/
def wrB : List (Ref sig .tc) := [main_v3, main_v4, main_v5, main_cst, main_v6, main_v7, main_c, main_v8, main_v9, main_cst_0, main_v10, main_c_1, main_v11, main_c_2, main_v12, main_v13, main_v14, main_v15, main_v16, main_v17, main_v18, main_v19, main_v20, main_v21, main_v22, main_v23, main_v24, main_v25, main_v26, main_v27, main_v28, main_v29, main_v30, main_v31, main_v32, main_v33]

/-- The first lines write what `wrA` lists. -/
theorem opsA_writes : (opsA (F := F)).map HloOp.writes = wrA.map fun r => {Proc.devRef (τ := τ) .tc r} := rfl
/-- The later lines write what `wrB` lists. -/
theorem opsB_writes : (opsB (F := F)).map HloOp.writes = wrB.map fun r => {Proc.devRef (τ := τ) .tc r} := rfl
/-- Every line determines its result, -/
theorem opsA_fresh : (opsA (F := F)).map HloOp.fresh = (opsA (F := F)).map fun _ => (∅ : Finset (DevRef τ sig)) := rfl
/-- the later ones too. -/
theorem opsB_fresh : (opsB (F := F)).map HloOp.fresh = (opsB (F := F)).map fun _ => (∅ : Finset (DevRef τ sig)) := rfl
/-- The first lines name TensorCore buffers only, -/
theorem opsA_sub : (opsA (F := F)).Forall fun op => op.bufs ⊆ StableHlo.tcRefs τ sig :=
  ⟨StableHlo.reshape_bufs_sub .., StableHlo.reshape_bufs_sub ..⟩
set_option maxRecDepth 4096 in
/-- and so do the later ones. -/
theorem opsB_sub : (opsB (F := F)).Forall fun op => op.bufs ⊆ StableHlo.tcRefs τ sig :=
  ⟨StableHlo.unary_bufs_sub .., StableHlo.unary_bufs_sub .., StableHlo.unary_bufs_sub .., StableHlo.nullary_bufs_sub .., StableHlo.unary_bufs_sub .., StableHlo.unary_bufs_sub .., StableHlo.nullary_bufs_sub .., StableHlo.unary_bufs_sub .., StableHlo.ternary_bufs_sub .., StableHlo.nullary_bufs_sub .., StableHlo.unary_bufs_sub .., StableHlo.nullary_bufs_sub .., StableHlo.unary_bufs_sub .., StableHlo.nullary_bufs_sub .., StableHlo.unary_bufs_sub .., StableHlo.binary_bufs_sub .., StableHlo.ternary_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub ..⟩

set_option maxRecDepth 4096 in
/-- The program: the first lines, the SparseCore call, the later lines, the TensorCore call. -/
theorem main_eq (d : Dev nD) : main (F := F) d
    = StableHlo.seq opsA >>= fun _ => ((scK (F := F)).run d 0 >>= fun _ => StableHlo.seq opsB >>= fun _ =>
        Prog.lift (.customCall (SparseCore.inner (Pipeline.entry 0)) ())) := by
  rfl

/-! ## The contents between the calls -/

variable (m : (ℓ : Loc nD τ sig) → Buf (Elt F) ℓ)

/-- The TensorCore's buffers when the SparseCore call starts, -/
def VA (d : Dev nD) : Valuation τ sig (Elt F) := StableHlo.after opsA fun b => m (d, b)
/-- the same by reference. -/
abbrev EA (d : Dev nD) (b : Ref sig .tc) : Buf (Elt F) ((T d : Thread nD τ).loc b) := VA m d (Proc.devRef .tc b)
/-- When it is done: its results the gathered rows. -/
def VS (d : Dev nD) : Valuation τ sig (Elt F) :=
  Function.update (Function.update (VA m d) (Proc.devRef .tc main_v2_0) (gathered (F := F) (EA m d main_v0) (EA m d main_arg4)))
    (Proc.devRef .tc main_v2_1) (gathered (F := F) (EA m d main_v1) (EA m d main_arg5))
/-- When the TensorCore call starts, -/
def VB (d : Dev nD) : Valuation τ sig (Elt F) := StableHlo.after opsB (VS m d)
/-- the same by reference. -/
abbrev EB (d : Dev nD) (b : Ref sig .tc) : Buf (Elt F) ((d : Thread nD τ).loc b) := VB m d (Proc.devRef .tc b)
/-- At the program's end. -/
def VF (d : Dev nD) : Valuation τ sig (Elt F) := Pipeline.afterRegion (dat (EB m) d) (VB m d)

/-- A buffer that no line before the SparseCore call writes is as launched there. -/
theorem VA_keeps (d : Dev nD) (r : Ref sig .tc) (h : r ∉ wrA) : VA m d (Proc.devRef .tc r) = m (d, Proc.devRef .tc r) :=
  StableHlo.after_of_writes_sub _ _ (StableHlo.forall_writes_sub_of_map opsA_writes) h

/-- A buffer that is none of the SparseCore call's results keeps its contents over the call. -/
theorem VS_keeps (d : Dev nD) (b : DevRef τ sig) (h0 : b ≠ Proc.devRef .tc main_v2_0) (h1 : b ≠ Proc.devRef .tc main_v2_1) :
    VS m d b = VA m d b := by
  unfold VS; rw [Function.update_of_ne h1, Function.update_of_ne h0]

/-- A buffer that no line between the calls writes keeps its contents over them. -/
theorem VB_keeps (d : Dev nD) (r : Ref sig .tc) (h : r ∉ wrB) : VB m d (Proc.devRef .tc r) = VS m d (Proc.devRef .tc r) :=
  StableHlo.after_of_writes_sub _ _ (StableHlo.forall_writes_sub_of_map opsB_writes) h

/-- The references that the program never writes. -/
def Kept (r : Ref sig .tc) : Prop :=
  r ∉ wrA ∧ r ∉ wrB ∧ r ≠ main_v2_0 ∧ r ≠ main_v2_1 ∧ ∀ w : Fin 29, Pipeline.arrRef spec1 w = r → (cfg1.win w).isOut = false

/-- Such a buffer is as launched when the TensorCore call starts, -/
theorem VB_kept (d : Dev nD) (r : Ref sig .tc) (h : Kept r) : VB m d (Proc.devRef .tc r) = m (d, Proc.devRef .tc r) :=
  (VB_keeps m d r h.2.1).trans ((VS_keeps m d _ (StableHlo.devRef_ne_of_ne h.2.2.1) (StableHlo.devRef_ne_of_ne h.2.2.2.1)).trans
    (VA_keeps m d r h.1))

/-- and at the end. -/
theorem VF_kept (d : Dev nD) (r : Ref sig .tc) (h : Kept r) : VF m d (Proc.devRef .tc r) = m (d, Proc.devRef .tc r) :=
  (Pipeline.afterRegion_keeps (dat (EB m) d) (VB m d) winFacts1.arr_inj (fun w => dat_A (EB m) d w) r h.2.2.2.2).trans (VB_kept m d r h)

/-- The result at the end: the output window's array as the pipeline leaves it. -/
theorem VF_out (d : Dev nD) : VF m d (Proc.devRef .tc main_v34) = (dat (EB m) d).arrAt (28 : Fin 29) cfg1.N :=
  Pipeline.afterRegion_arr (dat (EB m) d) (VB m d) winFacts1.arr_inj (28 : Fin 29)

end Cert.Proof.KI

end
-- ==== Proof.KI.Launch.lean ====
/-
  The launch of the whole program: the TensorCore's run of `main` — the first lines, the SparseCore call over its six
  arrays, the later lines, the pipelined TensorCore call as one region — and what every fair execution ends in.
-/
module

public import proofs.«01_k».proof.Proof.KI.Host

@[expose] public section

noncomputable section

namespace Cert.Proof.KI

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The TensorCore call as a region -/

/-- No pipeline takes a table. -/
abbrev adm : (p : Fin 1) → (pcfgs (F := F) p).Adm := fun p => (cfgs p).toPCfg_adm

/-- The pipeline's layout. -/
theorem kit : Pipeline.PLaunchFacts (nD := nD) (τ := τ) (pcfgs (F := F)) 0 := launch1.toP

/-- The pipeline's cells are distinct. -/
theorem cells_inj : Function.Injective (Pipeline.cellOf (nD := nD) (τ := τ) (Pipeline.pin (pcfgs (F := F)) adm)) :=
  (kit (F := F)).cellOf_inj adm

/-- The proof data of every pipeline: there is one. -/
abbrev dats : (p : Fin 1) → (c : Dev nD) → Pipeline.Dat τ (Elt F) (HIx 1) ℕ UU ℕ (Pipeline.pin (pcfgs (F := F)) adm p) c :=
  fun _ c => dat (EB m) c

/-- Every array is held whole. -/
theorem share_full (c : Dev nD) (w : Fin cfg1.W) : (dat (EB m) c).share w = fullShare := by
  unfold Pipeline.Dat.share dat; split <;> rfl

/-- What the TensorCore owes after the SparseCore call: nothing, its recorded waits at the levels of that call. -/
abbrev owesTc (c : Dev nD) : sProp 𝕄 :=
  iprop(∃ W, ⌜(scK (F := F)).WBelow (T c) W 8⌝ ∗ owes (T c) (0 : CellTallies nD τ sig (HIx 1)) W)

/-- That is what a point of the pipeline asks the core to owe, -/
theorem owesAt_intro (c : Dev nD) (t : Fin (cfg1.N + 1)) : owesTc c ⊢ ((dat (EB m) c).owesAt none t : sProp 𝕄) := by
  unfold owesTc Pipeline.Dat.owesAt Pipeline.owesWithin
  iintro ⟨%W, %hW, HO⟩
  iexists W
  isplitr
  · ipureintro; exact fun p hp => Or.inl (hW p hp)
  iexact HO

/-- and what it leaves. -/
theorem owesAt_elim (c : Dev nD) (t : Fin (cfg1.N + 1)) : ((dat (EB m) c).owesAt none t : sProp 𝕄) ⊢ owesTc c := by
  unfold owesTc Pipeline.Dat.owesAt Pipeline.owesWithin
  iintro ⟨%W, %hW, HO⟩
  iexists W
  isplitr
  · ipureintro
    intro p hp
    rcases hW hp with h | ⟨w, s, h⟩
    · exact h
    · have e : p.2 = none := by rw [h]
      rw [e, SparseCore.Cfg.lev_none]; exact Nat.zero_le 8
  iexact HO

/-- The core's unscoped buffers at a valuation, as the region's statements name them. -/
theorem held_eq (c : Dev nD) (W : Valuation τ sig (Elt F)) :
    (StableHlo.held (c.tc : Thread nD τ) (Pipeline.ucRefs τ sig) W : sProp 𝕄) = unscopedBufs c fun b => W (Proc.devRef .tc b) :=
  (Pipeline.unscopedBufs_held (Ix := HIx 1) (Name := ℕ) (U := UU) (Lvl := ℕ) c W).symm

/-- The TensorCore call as a region: entered with the buffers as the later lines leave them, left with the output's
    array as the pipeline leaves it. -/
def seg : Pipeline.RegionSeg (pcfgs (F := F)) adm (dats m) (none : HIx 1) (defs₀ (F := F)) 𝒱₀ (scK (F := F)).L (scK (F := F)).lev 0 where
  win := (kit (F := F)).win.to₀
  block_pos := (kit (F := F)).block_pos
  stage_whole := (kit (F := F)).stage_whole
  K := PEmpty
  osem := fun k => k.elim
  ho := Pipeline.OwnSemFacts.none _
  hbody := fun c => (body_obl (EB m) c).loose
  hwaits := Pipeline.hwaits_of_owed_zero _ _ _ _ (scK (F := F)).L (scK (F := F)).lev 0 fun _ _ => rfl
  pre := fun c => iprop(StableHlo.held (c.tc : Thread nD τ) (Pipeline.ucRefs τ sig) (VB m c) ∗ owesTc c)
  post := fun c => iprop(StableHlo.held (c.tc : Thread nD τ) (Pipeline.ucRefs τ sig) (VF m c) ∗ owesTc c)
  X := fun _ => iprop(emp)
  Y := fun _ => iprop(emp)
  Z := fun c => Pipeline.unscopedRest (Ix := HIx 1) (Name := ℕ) (U := UU) (Lvl := ℕ) spec1 c (EB m c)
  hentry := fun c => by
    rw [Pipeline.ownSems0_none, held_eq]
    have hsplit := Pipeline.arrays_of_unscopedBufs (p := (0 : Fin 1)) (pcfgs (F := F)) adm (dats m) (kit (F := F)).win (kit (F := F)).arr_whole c
      (share_full m c) (EB m c) (fun w => dat_A (EB m) c w)
    iintro ⟨⟨Hub, HO⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · iapply (owesAt_intro m c 0); iexact HO
    isplitr; · iempintro
    iexact Hrest
  hin := fun c => by
    show _ ⊢ (Pipeline.scopedRest (Ix := HIx 1) (Name := ℕ) (U := UU) (Lvl := ℕ) (Val := Elt F) spec1 c : sProp 𝕄)
    iintro ⟨-, -, H⟩
    iexact H
  hout := fun c => by
    rw [Pipeline.ownSems0_none]
    show (Pipeline.scopedRest (Ix := HIx 1) (Name := ℕ) (U := UU) (Lvl := ℕ) (Val := Elt F) spec1 c : sProp 𝕄) ⊢ _
    iintro H
    isplitr; · iempintro
    isplitr; · iempintro
    iexact H
  hexit := fun c => by
    rw [held_eq]
    have hjoin := Pipeline.unscopedBufs_of_arrays (p := (0 : Fin 1)) (pcfgs (F := F)) adm (Ix := HIx 1) (Name := ℕ) (U := UU) (Lvl := ℕ)
      (kit (F := F)).win (kit (F := F)).arr_whole c (dats m) (share_full m c)
      (EB m c) (fun b => VF m c (Proc.devRef .tc b)) ((dat (EB m) c).arrAt · cfg1.N)
      (fun w => (Pipeline.afterRegion_arr (dat (EB m) c) (VB m c) winFacts1.arr_inj w).symm)
      (fun b hb => Pipeline.afterRegion_of_not_arr (dat (EB m) c) (VB m c)
        fun w h => hb (h ▸ Finset.mem_image.mpr ⟨w, Finset.mem_univ _, rfl⟩))
    iintro ⟨Ha, HO, -, Hrest⟩
    imodintro
    isplitl [Ha Hrest]
    · iapply hjoin; isplitl [Ha] <;> iassumption
    iapply (owesAt_elim m c (Fin.last _)); iexact HO

/-- The region's entry state, -/
theorem seg_pre (c : Dev nD) : (seg m).pre c = iprop(StableHlo.held (c.tc : Thread nD τ) (Pipeline.ucRefs τ sig) (VB m c) ∗ owesTc c) := rfl
/-- and its exit state. -/
theorem seg_post (c : Dev nD) : (seg m).post c = iprop(StableHlo.held (c.tc : Thread nD τ) (Pipeline.ucRefs τ sig) (VF m c) ∗ owesTc c) := rfl

/-! ## The SparseCore call's six arrays among the TensorCore's buffers -/

/-- The six arrays of the SparseCore call. -/
def six : Finset (DevRef τ sig) :=
  {Proc.devRef .tc main_v0, Proc.devRef .tc main_v1, Proc.devRef .tc main_arg4, Proc.devRef .tc main_arg5,
    Proc.devRef .tc main_v2_0, Proc.devRef .tc main_v2_1}

/-- They are unscoped buffers of the TensorCore. -/
theorem six_sub : six ⊆ Pipeline.ucRefs τ sig := by
  intro b hb
  simp only [six, Finset.mem_insert, Finset.mem_singleton] at hb
  rcases hb with rfl | rfl | rfl | rfl | rfl | rfl <;> exact Pipeline.devRef_mem_ucRefs rfl

/-- Held together they are the six whole arrays. -/
theorem held_six (d : Dev nD) (W : Valuation τ sig (Elt F)) :
    (StableHlo.held (d.tc : Thread nD τ) six W : sProp 𝕄)
      = iprop((uidLoc d ↦{fullShare} W (Proc.devRef .tc main_v0)) ∗ (iidLoc d ↦{fullShare} W (Proc.devRef .tc main_v1))
        ∗ (utLoc d ↦{fullShare} W (Proc.devRef .tc main_arg4)) ∗ (itLoc d ↦{fullShare} W (Proc.devRef .tc main_arg5))
        ∗ (ueLoc d ↦{fullShare} W (Proc.devRef .tc main_v2_0)) ∗ (ieLoc d ↦{fullShare} W (Proc.devRef .tc main_v2_1))) := by
  unfold StableHlo.held six
  rw [SparseCore.bigSep_insert' (by decide), SparseCore.bigSep_insert' (by decide), SparseCore.bigSep_insert' (by decide),
    SparseCore.bigSep_insert' (by decide), SparseCore.bigSep_insert' (by decide), bigSep_singleton]

/-- Before the SparseCore call the buffers are its operands and the rest, -/
theorem held_call (d : Dev nD) :
    (StableHlo.held (d.tc : Thread nD τ) (Pipeline.ucRefs τ sig) (VA m d) : sProp 𝕄)
      = iprop((bigSep Finset.univ fun c : Fin ((scK (F := F)).nCore 0) => (P (EA m)).st 0 d c)
        ∗ StableHlo.held (d.tc : Thread nD τ) (Pipeline.ucRefs τ sig \ six) (VA m d)) := by
  rw [StableHlo.held_sub_split _ six_sub, held_six, st0_eq]

/-- and after it its results and the rest. -/
theorem held_called (d : Dev nD) :
    (StableHlo.held (d.tc : Thread nD τ) (Pipeline.ucRefs τ sig) (VS m d) : sProp 𝕄)
      = iprop((bigSep Finset.univ fun c : Fin ((scK (F := F)).nCore 0) => (P (EA m)).dn 0 d c)
        ∗ StableHlo.held (d.tc : Thread nD τ) (Pipeline.ucRefs τ sig \ six) (VA m d)) := by
  have e1 : VS m d (Proc.devRef .tc main_v2_1) = gathered (F := F) (EA m d main_v1) (EA m d main_arg5) := Function.update_self ..
  have e0 : VS m d (Proc.devRef .tc main_v2_0) = gathered (F := F) (EA m d main_v0) (EA m d main_arg4) :=
    (Function.update_of_ne (by decide) _ _).trans (Function.update_self ..)
  rw [StableHlo.held_sub_split _ six_sub, held_six, dn0_eq, e0, e1, VS_keeps m d _ (by decide) (by decide), VS_keeps m d _ (by decide) (by decide),
    VS_keeps m d _ (by decide) (by decide), VS_keeps m d _ (by decide) (by decide),
    StableHlo.held_congr (S := Pipeline.ucRefs τ sig \ six) (V := VS m d) (V' := VA m d) _ fun b hb => VS_keeps m d b
      (fun e => (Finset.mem_sdiff.mp hb).2 (by rw [e]; decide)) (fun e => (Finset.mem_sdiff.mp hb).2 (by rw [e]; decide))]

/-! ## The TensorCore's run -/

/-- The ghost state each TensorCore is dealt for the pipeline's cells. -/
abbrev G (d : Dev nD) : sProp 𝕄 :=
  iprop((bigSep Finset.univ fun p => Pipeline.cellsGhost (Pipeline.pin (pcfgs (F := F)) adm) EP p d)
    ∗ bigSep Finset.univ fun p => Pipeline.toksInit (Pipeline.pin (pcfgs (F := F)) adm) EP p d)

/-- What each TensorCore ends with: its buffers at their final contents. -/
abbrev FIN (d : Dev nD) : sProp 𝕄 := StableHlo.held (d.tc : Thread nD τ) (Pipeline.ucRefs τ sig) (VF m d)

/-- The TensorCore call in the SparseCore layer's labels is the lifted one. -/
theorem lift_call : (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) fun _ => .ret ⟨⟩) := rfl

/-- The TensorCore call under the SparseCore layer's definitions: the region's run lifted. -/
theorem wp_call [∀ e, Nonempty (Elt F e)] (d : Dev nD) (Q : PUnit → sProp 𝕄) :
    iprop((iprop(boundary (d.tc : Thread nD τ) ∗ (FIN m d ∗ owesTc d)) -∗ |={Set.univ}=> Q ⟨⟩)
        ∗ boundary (d.tc : Thread nD τ) ∗ (StableHlo.held (d.tc : Thread nD τ) (Pipeline.ucRefs τ sig) (VB m d) ∗ owesTc d)
        ∗ levAts (scK (F := F)).L (scK (F := F)).lev ∗ G d)
      ⊢ wp frame (wpE ((scK (F := F)).defs (DP (F := F))) 𝒱 (T d) none) Set.univ
          (Prog.lift (.customCall (SparseCore.inner (Pipeline.entry 0)) ())) Q := by
  rw [lift_call]
  have h1 := (scK (F := F)).wp_liftProg (N := 1) (Name := ℕ) (U := UU) (DP (F := F)) 𝒱 (T d) Set.univ none
    (.op (.customCall (Pipeline.entry 0) ()) fun _ => .ret ⟨⟩) Q
  have h2 := Pipeline.RegionSeg.wp (pcfgs (F := F)) adm (dats m) (none : HIx 1) cells_inj EP (defs₀ (F := F)) 𝒱₀
    (scK (F := F)).L (scK (F := F)).lev (seg m) d none (fun _ h => nomatch h) (fun _ => .ret ⟨⟩) Q
  have e : (G d : sProp 𝕄) ⊢ iprop(Pipeline.cellsGhost (Pipeline.pin (pcfgs (F := F)) adm) EP 0 d ∗ Pipeline.toksInit (Pipeline.pin (pcfgs (F := F)) adm) EP 0 d) :=
    BIClass.sep_mono (Entails.of_eq (bigSep_univ_of_subsingleton (0 : Fin 1))) (Entails.of_eq (bigSep_univ_of_subsingleton (0 : Fin 1)))
  rw [wp_ret, seg_pre, seg_post] at h2
  iintro ⟨Hk, Hb, Hp, Hl, HG⟩
  ihave HG := e $$ HG
  iapply h1
  iapply h2
  isplitl [Hk]; · iexact Hk
  isplitl [Hb]; · iexact Hb
  isplitl [Hp]; · iexact Hp
  isplitl [Hl]; · iexact Hl
  iexact HG

set_option backward.isDefEq.respectTransparency.types false in
set_option maxHeartbeats 1000000 in
/-- `main` on a TensorCore, from the launch's contents to the final ones. -/
theorem hmain [∀ e, Nonempty (Elt F e)] (κ : GSem nD τ sig → ℕ) (d : Dev nD) :
    iprop((scK (F := F)).ctx EH (P (EA m)) κ ∗ (scK (F := F)).tcSt EH d 0 ∗ (scK (F := F)).tcRes m ρ d ∗ G d)
      ⊢ wp frame (wpE ((scK (F := F)).defs (DP (F := F))) 𝒱 (T d) none) Set.univ (main d)
          fun _ => iprop((scK (F := F)).tcSt EH d 1 ∗ FIN m d ∗ (scK (F := F)).tcEnd d) := by
  unfold SparseCore.Cfg.tcRes SparseCore.Cfg.tcEnd
  rw [show (unscopedBufs d fun b => m ((T d : Thread nD τ).loc b) : sProp 𝕄)
      = StableHlo.held (d.tc : Thread nD τ) (Pipeline.ucRefs τ sig) (fun b => m (d, b)) from (held_eq d fun b => m (d, b)).symm, main_eq]
  iintro ⟨#Hctx, Hst, ⟨Hb, Hh, Hts, -⟩, ⟨Hg, Htok⟩⟩
  iapply (StableHlo.wp_seq 𝒱 none Set.univ d (Pipeline.ucRefs τ sig) _ opsA
    (fun op h => Pipeline.sub_ucRefs op ((List.forall_iff_forall_mem.mp opsA_sub) op h))
    (fun op h => (List.forall_iff_forall_mem.mp (StableHlo.forall_fresh_of_map opsA_fresh)) op h) (fun b => m (d, b))) $$ [Hb Hh]
  · isplitl [Hb] <;> iassumption
  iintro ⟨Hb, Hh⟩
  rw [show StableHlo.after opsA (fun b => m (d, b)) = VA m d from rfl]
  ihave Hh := (Entails.of_eq (held_call m d)) $$ Hh
  icases Hh with ⟨Hsix, Hrest⟩
  simp only [wp_bind]
  iapply ((scK (F := F)).wp_run (DP (F := F)) 𝒱 (EH := EH) (P := P (EA m)) κ d 0)
  isplitr; · iexact Hctx
  isplitl [Hst]; · iexact Hst
  isplitl [Hsix]; · iexact Hsix
  iintro ⟨Hst, Hdn⟩
  ihave Hh := (Entails.of_eq (held_called m d).symm) $$ [Hdn Hrest]
  · isplitl [Hdn] <;> iassumption
  simp only [← wp_bind]
  iapply (StableHlo.wp_seq 𝒱 none Set.univ d (Pipeline.ucRefs τ sig) _ opsB
    (fun op h => Pipeline.sub_ucRefs op ((List.forall_iff_forall_mem.mp opsB_sub) op h))
    (fun op h => (List.forall_iff_forall_mem.mp (StableHlo.forall_fresh_of_map opsB_fresh)) op h) (VS m d)) $$ [Hb Hh]
  · isplitl [Hb] <;> iassumption
  iintro ⟨Hb, Hh⟩
  unfold SparseCore.Cfg.tcSt
  icases Hst with ⟨⟨%W, %hW, HO⟩, Hst⟩
  rw [show (scK (F := F)).Otc d ((0 : Fin 1).val + 1) = (0 : CellTallies nD τ sig (HIx 1)) from (scK (F := F)).Otc_end d (n := 1) (le_refl 1),
    show (scK (F := F)).Otc d 1 = (0 : CellTallies nD τ sig (HIx 1)) from (scK (F := F)).Otc_end d (n := 1) (le_refl 1)]
  iapply (wp_call m d)
  isplitl [Hst Hts]
  · iintro ⟨Hb, Hh, ⟨%W', %hW', HO⟩⟩
    imodintro
    isplitl [Hst HO]
    · isplitl [HO]
      · iexists W'
        isplitr; · ipureintro; exact hW'
        iexact HO
      iexact Hst
    isplitl [Hh]; · iexact Hh
    isplitl [Hb] <;> iassumption
  isplitl [Hb]; · iexact Hb
  isplitl [Hh HO]
  · isplitl [Hh]; · iexact Hh
    iexists W
    isplitr; · ipureintro; exact hW
    iexact HO
  isplitr; · iapply ((scK (F := F)).ctx_levAts κ); iexact Hctx
  isplitl [Hg] <;> iassumption

/-! ## The ghost state at launch -/

/-- The ghost state the program starts from: the handshakes' rounds, the pipeline's rounds, no transfer counted. -/
def u₀ : UU := (Rounds.initOf (scK (F := F)).hsCells (scK (F := F)).hsToks,
  (Rounds.initOf (Pipeline.cells (Pipeline.pin (pcfgs (F := F)) adm) cells_inj) (Pipeline.launchToks (Pipeline.pin (pcfgs (F := F)) adm) cells_inj), 1))

/-- It gives the handshakes' rounds to the SparseCore launch and each TensorCore its pipeline's. -/
theorem hu₀ : (ownU (u₀ (F := F)) : sProp 𝕄)
    ⊢ |={Set.univ}=> iprop(BI.own (EH (Rounds.initOf (scK (F := F)).hsCells (scK (F := F)).hsToks)) ∗ (bigSep Finset.univ fun d : Dev nD => G (F := F) d)
        ∗ bigSep Finset.univ fun thr : Thread nD τ => bigSep Finset.univ fun q : Fin 1 => (P (EA m)).x q thr) := by
  unfold u₀
  iintro Hu
  ihave H := (ownU_pair (Rounds.initOf (scK (F := F)).hsCells (scK (F := F)).hsToks) _) $$ Hu
  icases H with ⟨HH, HR⟩
  ihave H := (own_pair_emb embR _ (1 : Counters)) $$ HR
  icases H with ⟨HP, -⟩
  imod (Pipeline.fund_ghost (Pipeline.pin (pcfgs (F := F)) adm) EP cells_inj) $$ HP with ⟨Hg, Ht⟩
  imodintro
  isplitl [HH]; · iexact HH
  isplitl [Hg Ht]
  · rw [bigSep_sep']
    isplitl [Hg] <;> iassumption
  rw [show (bigSep Finset.univ fun thr : Thread nD τ => bigSep Finset.univ fun q : Fin 1 => (P (F := F) (EA m)).x q thr) = bigSep Finset.univ fun _ => iprop(emp) from
    bigSep_congr fun _ _ => bigSep_univ_of_subsingleton (0 : Fin 1), show (bigSep Finset.univ fun _ : Thread nD τ => iprop(emp)) = (iprop(emp) : sProp 𝕄) from bigSep_emp_const _]
  iempintro

/-! ## The run -/

/-- What the final memory holds on a device: every unscoped buffer of the TensorCore at its final contents. -/
def fq (d : Dev nD) (s' : Phys nD τ sig (Elt F)) : Prop :=
  ∀ b ∈ Pipeline.ucRefs τ sig, s'.mem.mem (d, b) = VF m d b

/-- The buffers held at the end say so. -/
theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) (Pipeline.ucRefs τ sig)) $$ [HSI H]
  · isplitl [HSI]; · iexact HSI
    iexact H
  ipureintro
  exact h

/-- The whole run's end: the buffers on every device, and no semaphore counting. -/
def QC : PUnit × MemSt nD τ sig (Elt F) → Prop := fun r =>
  (∀ d : Dev nD, ∀ b ∈ Pipeline.ucRefs τ sig, r.2.mem (d, b) = VF m d b) ∧ r.2.sem = fun _ => 0

/-- From a memory whose ids are rows of the tables every fair execution of all the threads ends, with every buffer at
    its final contents and every semaphore at zero. -/
theorem run_main [∀ e, Nonempty (Elt F e)] (hpre : ∀ d, InRows (EA m) d) :
    θ_run (Cert.KernelIdeal.defs (F := F)) (Cert.KernelIdeal.threads (F := F)) ⟨m, fun _ => 0, ρ⟩ (QC m) :=
  SparseCore.Cfg.θ_run_sc_quiescent (K := scK (F := F)) (D := DP (F := F)) (𝒱 := 𝒱) (EH := EH) (P := P (EA m)) (A := ∅) facts v₀
    (fun q hq => match q with | 0 => nomatch hq)
    (fun q _ => match q with | 0 => tileObl (EA m) facts hpre)
    (fun q _ => match q with | 0 => SparseCore.Cfg.VecSplit.of_plain (vecSplit (EA m)))
    m ρ main (fun d => G (F := F) d) (FIN m) (u₀ (F := F)) (sep_elim_left.trans (hu₀ m)) (hmain m ρ) (fq m) (hfin m) (QC m) (fun _ h hz => ⟨h, hz⟩)

end Cert.Proof.KI

end
-- ==== Proof.KI.Frame.lean ====
/-
  The frame of the whole program: from ids that are rows of the tables, every fair execution of all the threads ends with
  the arguments as launched, and the result at what the pipelined call leaves.
-/
module

public import proofs.«01_k».proof.Proof.KI.Launch

@[expose] public section

noncomputable section

namespace Cert.Proof.KI

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The rows of ids that the SparseCore call reads are the launched ids, so what bounds these bounds those. -/
theorem inRows_of (d : Dev nD)
    (h0 : ∀ j : S16384.Idx, ((m ((d.tc : Thread nD τ).loc main_arg0) : IVec S16384 32) j).toNat < 100000)
    (h1 : ∀ j : S16384.Idx, ((m ((d.tc : Thread nD τ).loc main_arg1) : IVec S16384 32) j).toNat < 100000) : InRows (EA m) d :=
  ⟨fun j => h0 _, fun j => h1 _⟩

/-- The program never writes argument 0. -/
theorem kept0 : Kept main_arg0 := ⟨by decide, by decide, by decide, by decide, by decide⟩
/-- The program never writes argument 1. -/
theorem kept1 : Kept main_arg1 := ⟨by decide, by decide, by decide, by decide, by decide⟩
/-- The program never writes argument 2. -/
theorem kept2 : Kept main_arg2 := ⟨by decide, by decide, by decide, by decide, by decide⟩
/-- The program never writes argument 3. -/
theorem kept3 : Kept main_arg3 := ⟨by decide, by decide, by decide, by decide, by decide⟩
/-- The program never writes argument 4. -/
theorem kept4 : Kept main_arg4 := ⟨by decide, by decide, by decide, by decide, by decide⟩
/-- The program never writes argument 5. -/
theorem kept5 : Kept main_arg5 := ⟨by decide, by decide, by decide, by decide, by decide⟩
/-- The program never writes argument 6. -/
theorem kept6 : Kept main_arg6 := ⟨by decide, by decide, by decide, by decide, by decide⟩
/-- The program never writes argument 7. -/
theorem kept7 : Kept main_arg7 := ⟨by decide, by decide, by decide, by decide, by decide⟩
/-- The program never writes argument 8. -/
theorem kept8 : Kept main_arg8 := ⟨by decide, by decide, by decide, by decide, by decide⟩
/-- The program never writes argument 9. -/
theorem kept9 : Kept main_arg9 := ⟨by decide, by decide, by decide, by decide, by decide⟩
/-- The program never writes argument 10. -/
theorem kept10 : Kept main_arg10 := ⟨by decide, by decide, by decide, by decide, by decide⟩
/-- The program never writes argument 11. -/
theorem kept11 : Kept main_arg11 := ⟨by decide, by decide, by decide, by decide, by decide⟩
/-- The program never writes argument 12. -/
theorem kept12 : Kept main_arg12 := ⟨by decide, by decide, by decide, by decide, by decide⟩
/-- The program never writes argument 13. -/
theorem kept13 : Kept main_arg13 := ⟨by decide, by decide, by decide, by decide, by decide⟩
/-- The program never writes argument 14. -/
theorem kept14 : Kept main_arg14 := ⟨by decide, by decide, by decide, by decide, by decide⟩
/-- The program never writes argument 15. -/
theorem kept15 : Kept main_arg15 := ⟨by decide, by decide, by decide, by decide, by decide⟩
/-- The program never writes argument 16. -/
theorem kept16 : Kept main_arg16 := ⟨by decide, by decide, by decide, by decide, by decide⟩
/-- The program never writes argument 17. -/
theorem kept17 : Kept main_arg17 := ⟨by decide, by decide, by decide, by decide, by decide⟩
/-- The program never writes argument 18. -/
theorem kept18 : Kept main_arg18 := ⟨by decide, by decide, by decide, by decide, by decide⟩
/-- The program never writes argument 19. -/
theorem kept19 : Kept main_arg19 := ⟨by decide, by decide, by decide, by decide, by decide⟩
/-- The program never writes argument 20. -/
theorem kept20 : Kept main_arg20 := ⟨by decide, by decide, by decide, by decide, by decide⟩
/-- The program never writes argument 21. -/
theorem kept21 : Kept main_arg21 := ⟨by decide, by decide, by decide, by decide, by decide⟩
/-- The program never writes argument 22. -/
theorem kept22 : Kept main_arg22 := ⟨by decide, by decide, by decide, by decide, by decide⟩
/-- The program never writes argument 23. -/
theorem kept23 : Kept main_arg23 := ⟨by decide, by decide, by decide, by decide, by decide⟩
/-- The program never writes argument 24. -/
theorem kept24 : Kept main_arg24 := ⟨by decide, by decide, by decide, by decide, by decide⟩
/-- The program never writes argument 25. -/
theorem kept25 : Kept main_arg25 := ⟨by decide, by decide, by decide, by decide, by decide⟩
/-- The program never writes argument 26. -/
theorem kept26 : Kept main_arg26 := ⟨by decide, by decide, by decide, by decide, by decide⟩

/-- What holds of the memory where the program ends: the result is what the pipelined call leaves, the arguments are as
    launched, and no semaphore counts. -/
theorem run_args [∀ e, Nonempty (Elt F e)] (hpre : ∀ d, InRows (EA m) d) :
    θ_run (Cert.KernelIdeal.defs (F := F)) (Cert.KernelIdeal.threads (F := F)) ⟨m, fun _ => 0, ρ⟩ (fun r => (∀ c : Dev nD,
      r.2.mem ((c.tc : Thread nD τ).loc main_v34) = (dat (EB m) c).arrAt (28 : Fin 29) cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) ∧ r.2.sem = fun _ => 0) :=
  (θ_run (Cert.KernelIdeal.defs (F := F)) _ _).mono (fun _ h => ⟨fun c =>
    ⟨(h.1 c (Proc.devRef .tc main_v34) (Pipeline.devRef_mem_ucRefs rfl)).trans (VF_out m c),
     (h.1 c (Proc.devRef .tc main_arg0) (Pipeline.devRef_mem_ucRefs rfl)).trans (VF_kept m c main_arg0 kept0),
     (h.1 c (Proc.devRef .tc main_arg1) (Pipeline.devRef_mem_ucRefs rfl)).trans (VF_kept m c main_arg1 kept1),
     (h.1 c (Proc.devRef .tc main_arg2) (Pipeline.devRef_mem_ucRefs rfl)).trans (VF_kept m c main_arg2 kept2),
     (h.1 c (Proc.devRef .tc main_arg3) (Pipeline.devRef_mem_ucRefs rfl)).trans (VF_kept m c main_arg3 kept3),
     (h.1 c (Proc.devRef .tc main_arg4) (Pipeline.devRef_mem_ucRefs rfl)).trans (VF_kept m c main_arg4 kept4),
     (h.1 c (Proc.devRef .tc main_arg5) (Pipeline.devRef_mem_ucRefs rfl)).trans (VF_kept m c main_arg5 kept5),
     (h.1 c (Proc.devRef .tc main_arg6) (Pipeline.devRef_mem_ucRefs rfl)).trans (VF_kept m c main_arg6 kept6),
     (h.1 c (Proc.devRef .tc main_arg7) (Pipeline.devRef_mem_ucRefs rfl)).trans (VF_kept m c main_arg7 kept7),
     (h.1 c (Proc.devRef .tc main_arg8) (Pipeline.devRef_mem_ucRefs rfl)).trans (VF_kept m c main_arg8 kept8),
     (h.1 c (Proc.devRef .tc main_arg9) (Pipeline.devRef_mem_ucRefs rfl)).trans (VF_kept m c main_arg9 kept9),
     (h.1 c (Proc.devRef .tc main_arg10) (Pipeline.devRef_mem_ucRefs rfl)).trans (VF_kept m c main_arg10 kept10),
     (h.1 c (Proc.devRef .tc main_arg11) (Pipeline.devRef_mem_ucRefs rfl)).trans (VF_kept m c main_arg11 kept11),
     (h.1 c (Proc.devRef .tc main_arg12) (Pipeline.devRef_mem_ucRefs rfl)).trans (VF_kept m c main_arg12 kept12),
     (h.1 c (Proc.devRef .tc main_arg13) (Pipeline.devRef_mem_ucRefs rfl)).trans (VF_kept m c main_arg13 kept13),
     (h.1 c (Proc.devRef .tc main_arg14) (Pipeline.devRef_mem_ucRefs rfl)).trans (VF_kept m c main_arg14 kept14),
     (h.1 c (Proc.devRef .tc main_arg15) (Pipeline.devRef_mem_ucRefs rfl)).trans (VF_kept m c main_arg15 kept15),
     (h.1 c (Proc.devRef .tc main_arg16) (Pipeline.devRef_mem_ucRefs rfl)).trans (VF_kept m c main_arg16 kept16),
     (h.1 c (Proc.devRef .tc main_arg17) (Pipeline.devRef_mem_ucRefs rfl)).trans (VF_kept m c main_arg17 kept17),
     (h.1 c (Proc.devRef .tc main_arg18) (Pipeline.devRef_mem_ucRefs rfl)).trans (VF_kept m c main_arg18 kept18),
     (h.1 c (Proc.devRef .tc main_arg19) (Pipeline.devRef_mem_ucRefs rfl)).trans (VF_kept m c main_arg19 kept19),
     (h.1 c (Proc.devRef .tc main_arg20) (Pipeline.devRef_mem_ucRefs rfl)).trans (VF_kept m c main_arg20 kept20),
     (h.1 c (Proc.devRef .tc main_arg21) (Pipeline.devRef_mem_ucRefs rfl)).trans (VF_kept m c main_arg21 kept21),
     (h.1 c (Proc.devRef .tc main_arg22) (Pipeline.devRef_mem_ucRefs rfl)).trans (VF_kept m c main_arg22 kept22),
     (h.1 c (Proc.devRef .tc main_arg23) (Pipeline.devRef_mem_ucRefs rfl)).trans (VF_kept m c main_arg23 kept23),
     (h.1 c (Proc.devRef .tc main_arg24) (Pipeline.devRef_mem_ucRefs rfl)).trans (VF_kept m c main_arg24 kept24),
     (h.1 c (Proc.devRef .tc main_arg25) (Pipeline.devRef_mem_ucRefs rfl)).trans (VF_kept m c main_arg25 kept25),
     (h.1 c (Proc.devRef .tc main_arg26) (Pipeline.devRef_mem_ucRefs rfl)).trans (VF_kept m c main_arg26 kept26)⟩, h.2⟩)
    (run_main m ρ hpre)

end Cert.Proof.KI

end
-- ==== Proof.Frames.lean ====
/-
  The frame claims: the kernel at the machine's floats, the kernel and the reference at exact numbers.
-/
module

public import proofs.«01_k».proof.Defs
public import proofs.«01_k».proof.Proof.Pre
public import proofs.«01_k».proof.Proof.K.Frame
public import proofs.«01_k».proof.Proof.KI.Frame
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel's frame at the machine's floats, where the ids are in range. -/
theorem frame_kernel : Cert.quiescent_Kernel (hPre_ids_in_range := Pre.factsRange) := fun m ρ hpre =>
  (θ_run Cert.Kernel.defs _ _).mono (fun _ h => ⟨fun c => (h.1 c).2, h.2⟩)
    (K.run_args (F := Bits) m ρ fun d => K.inRows_of m d
      (letI := Pre.factsRange; Pre.users_in _ _ _ _ _ _ _ _ _ _ _ _ _ _ _ _ _ _ _ _ _ _ _ _ _ _ _ (hpre d).1)
      (letI := Pre.factsRange; Pre.items_in _ _ _ _ _ _ _ _ _ _ _ _ _ _ _ _ _ _ _ _ _ _ _ _ _ _ _ (hpre d).2.1))

/-- The kernel's frame at exact numbers, where the ids are in range, -/
theorem frame_ideal : Cert.quiescent_KernelIdeal (hPre_ids_in_range := Pre.factsRange) := fun m ρ hpre =>
  (θ_run Cert.KernelIdeal.defs _ _).mono (fun _ h => ⟨fun c => (h.1 c).2, h.2⟩)
    (KI.run_args (F := Ideal) m ρ fun d => KI.inRows_of m d
      (letI := Pre.factsRange; Pre.users_in _ _ _ _ _ _ _ _ _ _ _ _ _ _ _ _ _ _ _ _ _ _ _ _ _ _ _ (hpre d).1)
      (letI := Pre.factsRange; Pre.items_in _ _ _ _ _ _ _ _ _ _ _ _ _ _ _ _ _ _ _ _ _ _ _ _ _ _ _ (hpre d).2.1))

/-- Where the ids are in range and the variances positive, the rows of ids that the SparseCore call reads are in range. -/
theorem ideal_inRows (m : (ℓ : Loc Cert.KernelIdeal.nD Cert.KernelIdeal.τ Cert.KernelIdeal.sig) → Buf (Elt Ideal) ℓ)
    (hpre : Cert.Pre_KernelIdeal_ids_and_variances (hPre_ids_and_variances := Pre.factsVar) m) (d : Dev Cert.KernelIdeal.nD) :
    KI.InRows (KI.EA m) d :=
  KI.inRows_of m d
    (letI := Pre.factsVar; Pre.users_in' _ _ _ _ _ _ _ _ _ _ _ _ _ _ _ _ _ _ _ _ _ _ _ _ _ _ _ (hpre d).1)
    (letI := Pre.factsVar; Pre.items_in' _ _ _ _ _ _ _ _ _ _ _ _ _ _ _ _ _ _ _ _ _ _ _ _ _ _ _ (hpre d).2.1)

/-- and where the variances are positive too. -/
theorem frame_ideal' : Cert.quiescent_KernelIdeal_pre_ids_and_variances (hPre_ids_and_variances := Pre.factsVar) := fun m ρ hpre =>
  (θ_run Cert.KernelIdeal.defs _ _).mono (fun _ h => ⟨fun c => (h.1 c).2, h.2⟩)
    (KI.run_args (F := Ideal) m ρ (ideal_inRows m hpre))

/-- The reference's frame: it declares no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same where the variances are positive. -/
theorem frame_ref' : Cert.quiescent_ReferenceIdeal_pre_ids_and_variances (hPre_ids_and_variances := Pre.factsVar) := fun m ρ _ =>
  frame_ref m ρ trivial

end Cert.Proof

end
-- ==== Proof.Net.lean ====
/-
  The rating network on one row, over exact numbers: what the kernel computes and what the reference computes, and that they
  are the same number where every variance is positive with the epsilon added.
-/
module

public import Idealize.ShloMosaic.PureOps.Ideal
public import Idealize.ShloMosaic.Lib.Pointwise

@[expose] public section

set_option maxRecDepth 16384

noncomputable section

namespace Cert.Proof.Net

open Idealize.ShloMosaic

/-- The batch norm's epsilon, exactly. -/
def eps : EReal := Ideal.ofBits .f32 0x3727C5AC#32
/-- The scale of the rating, exactly. -/
def five : EReal := Ideal.ofBits .f32 0x40A00000#32

/-! ## One activation -/

/-- The kernel's batch norm and rectifier: scale by the gain times the reciprocal root, then shift. -/
def act (g be mu v x : EReal) : EReal := max ((x - mu) * (g * Ideal.rsqrt (v + eps)) + be) 0
/-- The reference's: multiply by the gain, divide by the root, then shift. -/
def actR (g be mu v x : EReal) : EReal := max (Ideal.div (g * (x - mu)) (Ideal.sqrt (v + eps)) + be) 0

/-- Dividing by the root of a positive number is multiplying by its reciprocal root. -/
theorem div_sqrt (x y : EReal) (h : 0 < y) : Ideal.div x (Ideal.sqrt y) = x * Ideal.rsqrt y := by
  induction y with
  | bot => exact absurd h (by simp)
  | top =>
    have e1 : Ideal.sqrt (⊤ : EReal) = ⊤ := rfl
    have e2 : Ideal.rsqrt (⊤ : EReal) = 0 := rfl
    rw [e1, e2, Ideal.div, if_neg (by simp), EReal.inv_top]
  | coe r =>
    have hr : 0 < r := by exact_mod_cast h
    have hs : Real.sqrt r ≠ 0 := (Real.sqrt_pos.mpr hr).ne'
    have e1 : Ideal.sqrt (r : EReal) = (Real.sqrt r : EReal) := by
      show (if r < 0 then (⊥ : EReal) else (Real.sqrt r : EReal)) = _
      rw [if_neg hr.le.not_gt]
    have e2 : Ideal.rsqrt (r : EReal) = ((Real.sqrt r)⁻¹ : ℝ) := by
      show (if r < 0 then (⊥ : EReal) else if r = 0 then ⊤ else ((Real.sqrt r)⁻¹ : ℝ)) = _
      rw [if_neg hr.le.not_gt, if_neg hr.ne']
    rw [e1, e2, Ideal.div, if_neg (by exact_mod_cast hs), EReal.coe_inv]

/-- The two activations agree where the variance is positive with the epsilon added. -/
theorem actR_eq (g be mu v x : EReal) (h : 0 < v + eps) : actR g be mu v x = act g be mu v x := by
  unfold actR act
  rw [div_sqrt _ _ h, mul_comm g (x - mu), mul_assoc]

/-! ## The last step -/

/-- The kernel's logistic curve, scaled. -/
def last (z : EReal) : EReal := Ideal.div five (1 + Ideal.exp (0 - z))
/-- The reference's. -/
def lastR (z : EReal) : EReal := Ideal.div 1 (1 + Ideal.exp (-z)) * five

/-- An exponential is at least zero. -/
theorem exp_nonneg (z : EReal) : 0 ≤ Ideal.exp z := by
  induction z with
  | bot => exact le_refl _
  | top => exact le_top
  | coe r =>
    show (0 : EReal) ≤ (Real.exp r : EReal)
    exact_mod_cast (Real.exp_pos r).le

/-- The two curves agree: their denominator is at least one. -/
theorem lastR_eq (z : EReal) : lastR z = last z := by
  unfold lastR last
  have h : (1 : EReal) + Ideal.exp (-z) ≠ 0 :=
    ((zero_lt_one (α := EReal)).trans_le (le_add_of_nonneg_right (exp_nonneg _))).ne'
  rw [zero_sub, Ideal.div, if_neg h, Ideal.div, if_neg h, one_mul, mul_comm]

/-! ## The network after the first product -/

section
variable (b0 g0 be0 m0 v0 : Fin 1024 → EReal) (W1 : Fin 1024 → Fin 512 → EReal) (b1 g1 be1 m1 v1 : Fin 512 → EReal)
  (W2 : Fin 512 → Fin 256 → EReal) (b2 g2 be2 m2 v2 : Fin 256 → EReal) (wf : Fin 256 → EReal) (bf : EReal)

/-- The rating of a row from its first product, with activation `a` and last step `l`. -/
def rate (a : EReal → EReal → EReal → EReal → EReal → EReal) (l : EReal → EReal) (x : Fin 1024 → EReal) : EReal :=
  l ((∑ p : Fin 256, a (g2 p) (be2 p) (m2 p) (v2 p)
      ((∑ n : Fin 512, a (g1 n) (be1 n) (m1 n) (v1 n)
        ((∑ k : Fin 1024, a (g0 k) (be0 k) (m0 k) (v0 k) (x k + b0 k) * W1 k n) + b1 n) * W2 n p) + b2 p) * wf p) + bf)

/-- The reference's rating is the kernel's, where every variance is positive with the epsilon added. -/
theorem rate_eq (x : Fin 1024 → EReal) (h0 : ∀ k, 0 < v0 k + eps) (h1 : ∀ n, 0 < v1 n + eps) (h2 : ∀ p, 0 < v2 p + eps) :
    rate b0 g0 be0 m0 v0 W1 b1 g1 be1 m1 v1 W2 b2 g2 be2 m2 v2 wf bf actR lastR x
      = rate b0 g0 be0 m0 v0 W1 b1 g1 be1 m1 v1 W2 b2 g2 be2 m2 v2 wf bf act last x := by
  unfold rate
  rw [lastR_eq]
  refine congrArg last (congrArg (· + bf) (Finset.sum_congr rfl fun p _ => ?_))
  rw [actR_eq _ _ _ _ _ (h2 p)]
  refine congrArg (fun y => act (g2 p) (be2 p) (m2 p) (v2 p) (y + b2 p) * wf p) (Finset.sum_congr rfl fun n _ => ?_)
  rw [actR_eq _ _ _ _ _ (h1 n)]
  refine congrArg (fun y => act (g1 n) (be1 n) (m1 n) (v1 n) (y + b1 n) * W2 n p) (Finset.sum_congr rfl fun k _ => ?_)
  rw [actR_eq _ _ _ _ _ (h0 k)]
end

/-! ## The first product -/

section
variable (u i : Fin 128 → EReal) (t : EReal)

/-- The kernel's first product at one column: the user's rows, the item's, the time's, and the day's picked by a row of ones
    and zeros from its product with the padded weights. -/
def first (wu wi : Fin 128 → EReal) (wt : EReal) (oh : Fin 8 → EReal) (d8 : Fin 8 → Fin 128 → EReal) (wd : Fin 128 → EReal) : EReal :=
  (((∑ k, u k * wu k) + ∑ k, i k * wi k) + t * wt) + ∑ q : Fin 8, oh q * ∑ k, d8 q k * wd k

/-- A sum over 128 of which all but the first four summands vanish. -/
theorem sum_four (f : Fin 128 → EReal) (h : ∀ k : Fin 128, 4 ≤ k.val → f k = 0) : ∑ k, f k = ∑ k : Fin 4, f ⟨k.val, by omega⟩ := by
  have e := Fin.sum_univ_add (a := 4) (b := 124) (fun k : Fin (4 + 124) => f k)
  rw [show (∑ k : Fin 128, f k) = ∑ k : Fin (4 + 124), f k from rfl, e]
  have z : ∑ k : Fin 124, f (Fin.natAdd 4 k : Fin (4 + 124)) = 0 :=
    Finset.sum_eq_zero fun k _ => h _ (by simp)
  rw [z, add_zero]
  rfl

/-- The day's part: one row of seven, four columns of the 128. -/
theorem day_part (oh : Fin 8 → EReal) (d8 : Fin 8 → Fin 128 → EReal) (wd : Fin 128 → EReal) (q : Fin 8)
    (h1 : oh q = 1) (h0 : ∀ p, p ≠ q → oh p = 0) (hw : ∀ k : Fin 128, 4 ≤ k.val → wd k = 0) :
    ∑ p, oh p * ∑ k, d8 p k * wd k = ∑ k : Fin 4, d8 q ⟨k.val, by omega⟩ * wd ⟨k.val, by omega⟩ := by
  rw [Finset.sum_eq_single q (fun p _ hp => by rw [h0 p hp, zero_mul]) (fun h => absurd (Finset.mem_univ q) h), h1, one_mul]
  exact sum_four _ fun k hk => by rw [hw k hk, mul_zero]
end

end Cert.Proof.Net

end
-- ==== Proof.Body.lean ====
/-
  What the TensorCore call's body computes on a block of rows, row by row: the rating network of the row.
-/
module

public import proofs.«01_k».proof.Proof.Net
public import proofs.«01_k».proof.Proof.Gen.KernelIdeal.Skeleton

@[expose] public section

set_option maxRecDepth 16384

noncomputable section

namespace Cert.Proof.KI

open Cert.KernelIdeal Cert.KernelIdeal.Gen
open Idealize.ShloMosaic Idealize.ShloMosaic.TcCoe
open Cert.Proof.Net

/-- The row of ones and zeros that a day makes: its comparison with each of eight numbers, as a number. -/
def hot (w : BitVec 32) (q : Fin 8) : EReal :=
  ((((IntOp.cmpi .eq w (BitVec.ofNat 32 q.val)).setWidth 32).toInt : ℝ) : EReal)

/-- The first product at a row and a column. -/
theorem pay2_at (ue ie : FVec Ideal S512x128 .f32) (wu wi : FVec Ideal S128x1024 .f32) (ts : FVec Ideal S512x1 .f32) (wt : FVec Ideal S1x1024 .f32)
    (d8 : FVec Ideal S8x128 .f32) (wd : FVec Ideal S128x1024 .f32) (dow : IVec S512x1 32) (r : Fin 512) (l : Fin 1024) :
    k1_pay2 (F := Ideal) ue ie wu wi ts wt d8 wd dow (ix2 r l)
      = first (fun k => ue (ix2 r k)) (fun k => ie (ix2 r k)) (ts (ix2 r 0)) (fun k => wu (ix2 k l)) (fun k => wi (ix2 k l)) (wt (ix2 0 l))
          (hot (dow (ix2 r 0))) (fun q k => d8 (ix2 q k)) (fun k => wd (ix2 k l)) := by
  pointwise [k1_pay2, first, hot]
  rfl

/-- The second product, with its bias and less its mean, at a row and a column. -/
theorem pay3_at (x : FVec Ideal S512x1024 .f32) (b0 m0 g0 v0 be0 : FVec Ideal S1x1024 .f32) (W1 : FVec Ideal S1024x512 .f32) (b1 m1 : FVec Ideal S1x512 .f32)
    (r : Fin 512) (n : Fin 512) :
    k1_pay3 (F := Ideal) x b0 m0 g0 v0 be0 W1 b1 m1 (ix2 r n)
      = ((∑ k : Fin 1024, act (g0 (ix2 0 k)) (be0 (ix2 0 k)) (m0 (ix2 0 k)) (v0 (ix2 0 k)) (x (ix2 r k) + b0 (ix2 0 k)) * W1 (ix2 k n)) + b1 (ix2 0 n))
          - m1 (ix2 0 n) := by
  pointwise [k1_pay3, act, eps]

/-- The third activation at a row and a column. -/
theorem pay7_at (x : FVec Ideal S512x512 .f32) (g1 v1 be1 : FVec Ideal S1x512 .f32) (W2 : FVec Ideal S512x256 .f32) (b2 m2 g2 v2 be2 : FVec Ideal S1x256 .f32)
    (r : Fin 512) (p : Fin 256) :
    k1_pay7 (F := Ideal) x (k1_pay4 g1) (k1_pay5 v1) k1_pay6 be1 W2 b2 m2 g2 v2 be2 (ix2 r p)
      = act (g2 (ix2 0 p)) (be2 (ix2 0 p)) (m2 (ix2 0 p)) (v2 (ix2 0 p))
          ((∑ n : Fin 512, max (x (ix2 r n) * (g1 (ix2 0 n) * Ideal.rsqrt (v1 (ix2 0 n) + eps)) + be1 (ix2 0 n)) 0 * W2 (ix2 n p)) + b2 (ix2 0 p)) := by
  pointwise [k1_pay7, k1_pay4, k1_pay5, k1_pay6, act, eps]

/-- The rating at a row. -/
theorem pay1_at (x : FVec Ideal S512x256 .f32) (wf : FVec Ideal S1x256 .f32) (bf : FVec Ideal S1x1 .f32) (r : Fin 512) :
    k1_pay1 (F := Ideal) x (k1_pay8 wf) bf (ix2 r 0) = last ((∑ p : Fin 256, x (ix2 r p) * wf (ix2 0 p)) + bf (ix2 0 0)) := by
  pointwise [k1_pay1, k1_pay8, last, five]

/-- The whole body at a row: the network of the row's blocks. -/
theorem block_at (x0 x1 : FVec Ideal S512x128 .f32) (x2 : FVec Ideal S512x1 .f32) (x3 : IVec S512x1 32) (x4 x5 : FVec Ideal S128x1024 .f32)
    (x6 : FVec Ideal S1x1024 .f32) (x7 : FVec Ideal S8x128 .f32) (x8 : FVec Ideal S128x1024 .f32) (x9 x10 x11 x12 x13 : FVec Ideal S1x1024 .f32)
    (x14 : FVec Ideal S1024x512 .f32) (x15 x16 x17 x18 x19 : FVec Ideal S1x512 .f32) (x20 : FVec Ideal S512x256 .f32)
    (x21 x22 x23 x24 x25 x26 : FVec Ideal S1x256 .f32) (x27 : FVec Ideal S1x1 .f32) (r : Fin 512) :
    k1_pay1 (F := Ideal) (k1_pay7 (k1_pay3 (k1_pay2 x0 x1 x4 x5 x2 x6 x7 x8 x3) x9 x12 x10 x13 x11 x14 x15 x18) (k1_pay4 x16) (k1_pay5 x19) k1_pay6
        x17 x20 x21 x24 x22 x25 x23) (k1_pay8 x26) x27 (ix2 r 0)
      = rate (fun k => x9 (ix2 0 k)) (fun k => x10 (ix2 0 k)) (fun k => x11 (ix2 0 k)) (fun k => x12 (ix2 0 k)) (fun k => x13 (ix2 0 k))
          (fun k n => x14 (ix2 k n))
          (fun n => x15 (ix2 0 n)) (fun n => x16 (ix2 0 n)) (fun n => x17 (ix2 0 n)) (fun n => x18 (ix2 0 n)) (fun n => x19 (ix2 0 n))
          (fun n p => x20 (ix2 n p))
          (fun p => x21 (ix2 0 p)) (fun p => x22 (ix2 0 p)) (fun p => x23 (ix2 0 p)) (fun p => x24 (ix2 0 p)) (fun p => x25 (ix2 0 p))
          (fun p => x26 (ix2 0 p)) (x27 (ix2 0 0)) act last
          (fun l => first (fun k => x0 (ix2 r k)) (fun k => x1 (ix2 r k)) (x2 (ix2 r 0)) (fun k => x4 (ix2 k l)) (fun k => x5 (ix2 k l)) (x6 (ix2 0 l))
            (hot (x3 (ix2 r 0))) (fun q k => x7 (ix2 q k)) (fun k => x8 (ix2 k l))) := by
  rw [pay1_at]
  simp only [pay7_at, pay3_at, pay2_at]
  rfl

end Cert.Proof.KI

end
-- ==== Proof.Out.lean ====
/-
  What the TensorCore call leaves in its result array: for every row, the rating network of the arrays' row.
-/
module

public import proofs.«01_k».proof.Proof.Body
public import proofs.«01_k».proof.Proof.KI.Region
public import Idealize.ShloMosaic.Lib.Pipeline.ValueKit

@[expose] public section

set_option maxRecDepth 16384

noncomputable section

namespace Cert.Proof.KI

open Cert.KernelIdeal Cert.KernelIdeal.Gen
open Idealize.ShloMosaic Idealize.ShloMosaic.TcCoe
open Idealize.ShloMosaic.Pipeline (Dat)
open Cert.Proof.Net

/-- The zero offset, spelt by its entries. -/
theorem zero2 : (![0, 0] : Fin 2 → Nat) = fun _ => 0 := by decide

/-- The output block at a row: the network of the input blocks' row. -/
theorem outBlk_at (x0 : FVec Ideal S512x128 .f32) (x1 : FVec Ideal S512x128 .f32) (x2 : FVec Ideal S512x1 .f32) (x3 : IVec S512x1 32) (x4 : FVec Ideal S128x1024 .f32) (x5 : FVec Ideal S128x1024 .f32) (x6 : FVec Ideal S1x1024 .f32) (x7 : FVec Ideal S8x128 .f32) (x8 : FVec Ideal S128x1024 .f32) (x9 : FVec Ideal S1x1024 .f32) (x10 : FVec Ideal S1x1024 .f32) (x11 : FVec Ideal S1x1024 .f32) (x12 : FVec Ideal S1x1024 .f32) (x13 : FVec Ideal S1x1024 .f32) (x14 : FVec Ideal S1024x512 .f32) (x15 : FVec Ideal S1x512 .f32) (x16 : FVec Ideal S1x512 .f32) (x17 : FVec Ideal S1x512 .f32) (x18 : FVec Ideal S1x512 .f32) (x19 : FVec Ideal S1x512 .f32) (x20 : FVec Ideal S512x256 .f32) (x21 : FVec Ideal S1x256 .f32) (x22 : FVec Ideal S1x256 .f32) (x23 : FVec Ideal S1x256 .f32) (x24 : FVec Ideal S1x256 .f32) (x25 : FVec Ideal S1x256 .f32) (x26 : FVec Ideal S1x256 .f32) (x27 : FVec Ideal S1x1 .f32) (r : Fin 512) :
    outBlk (F := Ideal) x0 x1 x2 x3 x4 x5 x6 x7 x8 x9 x10 x11 x12 x13 x14 x15 x16 x17 x18 x19 x20 x21 x22 x23 x24 x25 x26 x27 (ix2 r 0)
      = rate (fun k => x9 (ix2 0 k)) (fun k => x10 (ix2 0 k)) (fun k => x11 (ix2 0 k)) (fun k => x12 (ix2 0 k)) (fun k => x13 (ix2 0 k)) (fun k n => x14 (ix2 k n))
          (fun n => x15 (ix2 0 n)) (fun n => x16 (ix2 0 n)) (fun n => x17 (ix2 0 n)) (fun n => x18 (ix2 0 n)) (fun n => x19 (ix2 0 n)) (fun n p => x20 (ix2 n p))
          (fun p => x21 (ix2 0 p)) (fun p => x22 (ix2 0 p)) (fun p => x23 (ix2 0 p)) (fun p => x24 (ix2 0 p)) (fun p => x25 (ix2 0 p)) (fun p => x26 (ix2 0 p)) (x27 (ix2 0 0)) act last
          (fun l => first (fun k => x0 (ix2 r k)) (fun k => x1 (ix2 r k)) (x2 (ix2 r 0)) (fun k => x4 (ix2 k l)) (fun k => x5 (ix2 k l)) (x6 (ix2 0 l))
            (hot (x3 (ix2 r 0))) (fun q k => x7 (ix2 q k)) (fun k => x8 (ix2 k l))) := by
  refine Eq.trans ?_ (block_at x0 x1 x2 x3 x4 x5 x6 x7 x8 x9 x10 x11 x12 x13 x14 x15 x16 x17 x18 x19 x20 x21 x22 x23 x24 x25 x26 x27 r)
  unfold outBlk
  simp only [View.ld_unit_zero (S := S512x128) zero2, View.ld_unit_zero (S := S512x1) zero2, View.ld_unit_zero (S := S128x1024) zero2, View.ld_unit_zero (S := S1x1024) zero2, View.ld_unit_zero (S := S8x128) zero2, View.ld_unit_zero (S := S1024x512) zero2, View.ld_unit_zero (S := S1x512) zero2, View.ld_unit_zero (S := S512x256) zero2, View.ld_unit_zero (S := S1x256) zero2, View.ld_unit_zero (S := S1x1) zero2, View.canon_unit_zero (S := S512x1) zero2]

/-- The network of row `i 0` of the arrays. -/
def netOf (a0 : FVec Ideal S16384x128 .f32) (a1 : FVec Ideal S16384x128 .f32) (a2 : FVec Ideal S16384x1 .f32) (a3 : IVec S16384x1 32) (a4 : FVec Ideal S128x1024 .f32) (a5 : FVec Ideal S128x1024 .f32) (a6 : FVec Ideal S1x1024 .f32) (a7 : FVec Ideal S8x128 .f32) (a8 : FVec Ideal S128x1024 .f32) (a9 : FVec Ideal S1x1024 .f32) (a10 : FVec Ideal S1x1024 .f32) (a11 : FVec Ideal S1x1024 .f32) (a12 : FVec Ideal S1x1024 .f32) (a13 : FVec Ideal S1x1024 .f32) (a14 : FVec Ideal S1024x512 .f32) (a15 : FVec Ideal S1x512 .f32) (a16 : FVec Ideal S1x512 .f32) (a17 : FVec Ideal S1x512 .f32) (a18 : FVec Ideal S1x512 .f32) (a19 : FVec Ideal S1x512 .f32) (a20 : FVec Ideal S512x256 .f32) (a21 : FVec Ideal S1x256 .f32) (a22 : FVec Ideal S1x256 .f32) (a23 : FVec Ideal S1x256 .f32) (a24 : FVec Ideal S1x256 .f32) (a25 : FVec Ideal S1x256 .f32) (a26 : FVec Ideal S1x256 .f32) (a27 : FVec Ideal S1x1 .f32) (i : S16384x1.Idx) : EReal :=
  rate (fun k => a9 (ix2 0 k)) (fun k => a10 (ix2 0 k)) (fun k => a11 (ix2 0 k)) (fun k => a12 (ix2 0 k)) (fun k => a13 (ix2 0 k)) (fun k n => a14 (ix2 k n))
    (fun n => a15 (ix2 0 n)) (fun n => a16 (ix2 0 n)) (fun n => a17 (ix2 0 n)) (fun n => a18 (ix2 0 n)) (fun n => a19 (ix2 0 n)) (fun n p => a20 (ix2 n p))
    (fun p => a21 (ix2 0 p)) (fun p => a22 (ix2 0 p)) (fun p => a23 (ix2 0 p)) (fun p => a24 (ix2 0 p)) (fun p => a25 (ix2 0 p)) (fun p => a26 (ix2 0 p)) (a27 (ix2 0 0)) act last
    (fun l => first (fun k => a0 (ix2 (i 0) k)) (fun k => a1 (ix2 (i 0) k)) (a2 (ix2 (i 0) 0)) (fun k => a4 (ix2 k l)) (fun k => a5 (ix2 k l)) (a6 (ix2 0 l))
      (hot (a3 (ix2 (i 0) 0))) (fun q k => a7 (ix2 q k)) (fun k => a8 (ix2 k l)))

variable (V : (c : Dev nD) → (b : Ref sig .tc) → Buf (Elt Ideal) ((c : Thread nD τ).loc b))

/-- Window 0's block at a point: the point's 512 rows. -/
theorem idx0 : ∀ t : Fin cfg1.N, win1_0.index t = ![t.val, 0] := (by decide +kernel : ∀ t : Fin grid1.N, _)
/-- Window 1's block at a point: the point's 512 rows. -/
theorem idx1 : ∀ t : Fin cfg1.N, win1_1.index t = ![t.val, 0] := (by decide +kernel : ∀ t : Fin grid1.N, _)
/-- Window 2's block at a point: the point's 512 rows. -/
theorem idx2 : ∀ t : Fin cfg1.N, win1_2.index t = ![t.val, 0] := (by decide +kernel : ∀ t : Fin grid1.N, _)
/-- Window 3's block at a point: the point's 512 rows. -/
theorem idx3 : ∀ t : Fin cfg1.N, win1_3.index t = ![t.val, 0] := (by decide +kernel : ∀ t : Fin grid1.N, _)
/-- Window 4's block at a point: the whole array. -/
theorem idx4 : ∀ t : Fin cfg1.N, win1_4.index t = ![0, 0] := (by decide +kernel : ∀ t : Fin grid1.N, _)
/-- Window 5's block at a point: the whole array. -/
theorem idx5 : ∀ t : Fin cfg1.N, win1_5.index t = ![0, 0] := (by decide +kernel : ∀ t : Fin grid1.N, _)
/-- Window 6's block at a point: the whole array. -/
theorem idx6 : ∀ t : Fin cfg1.N, win1_6.index t = ![0, 0] := (by decide +kernel : ∀ t : Fin grid1.N, _)
/-- Window 7's block at a point: the whole array. -/
theorem idx7 : ∀ t : Fin cfg1.N, win1_7.index t = ![0, 0] := (by decide +kernel : ∀ t : Fin grid1.N, _)
/-- Window 8's block at a point: the whole array. -/
theorem idx8 : ∀ t : Fin cfg1.N, win1_8.index t = ![0, 0] := (by decide +kernel : ∀ t : Fin grid1.N, _)
/-- Window 9's block at a point: the whole array. -/
theorem idx9 : ∀ t : Fin cfg1.N, win1_9.index t = ![0, 0] := (by decide +kernel : ∀ t : Fin grid1.N, _)
/-- Window 10's block at a point: the whole array. -/
theorem idx10 : ∀ t : Fin cfg1.N, win1_10.index t = ![0, 0] := (by decide +kernel : ∀ t : Fin grid1.N, _)
/-- Window 11's block at a point: the whole array. -/
theorem idx11 : ∀ t : Fin cfg1.N, win1_11.index t = ![0, 0] := (by decide +kernel : ∀ t : Fin grid1.N, _)
/-- Window 12's block at a point: the whole array. -/
theorem idx12 : ∀ t : Fin cfg1.N, win1_12.index t = ![0, 0] := (by decide +kernel : ∀ t : Fin grid1.N, _)
/-- Window 13's block at a point: the whole array. -/
theorem idx13 : ∀ t : Fin cfg1.N, win1_13.index t = ![0, 0] := (by decide +kernel : ∀ t : Fin grid1.N, _)
/-- Window 14's block at a point: the whole array. -/
theorem idx14 : ∀ t : Fin cfg1.N, win1_14.index t = ![0, 0] := (by decide +kernel : ∀ t : Fin grid1.N, _)
/-- Window 15's block at a point: the whole array. -/
theorem idx15 : ∀ t : Fin cfg1.N, win1_15.index t = ![0, 0] := (by decide +kernel : ∀ t : Fin grid1.N, _)
/-- Window 16's block at a point: the whole array. -/
theorem idx16 : ∀ t : Fin cfg1.N, win1_16.index t = ![0, 0] := (by decide +kernel : ∀ t : Fin grid1.N, _)
/-- Window 17's block at a point: the whole array. -/
theorem idx17 : ∀ t : Fin cfg1.N, win1_17.index t = ![0, 0] := (by decide +kernel : ∀ t : Fin grid1.N, _)
/-- Window 18's block at a point: the whole array. -/
theorem idx18 : ∀ t : Fin cfg1.N, win1_18.index t = ![0, 0] := (by decide +kernel : ∀ t : Fin grid1.N, _)
/-- Window 19's block at a point: the whole array. -/
theorem idx19 : ∀ t : Fin cfg1.N, win1_19.index t = ![0, 0] := (by decide +kernel : ∀ t : Fin grid1.N, _)
/-- Window 20's block at a point: the whole array. -/
theorem idx20 : ∀ t : Fin cfg1.N, win1_20.index t = ![0, 0] := (by decide +kernel : ∀ t : Fin grid1.N, _)
/-- Window 21's block at a point: the whole array. -/
theorem idx21 : ∀ t : Fin cfg1.N, win1_21.index t = ![0, 0] := (by decide +kernel : ∀ t : Fin grid1.N, _)
/-- Window 22's block at a point: the whole array. -/
theorem idx22 : ∀ t : Fin cfg1.N, win1_22.index t = ![0, 0] := (by decide +kernel : ∀ t : Fin grid1.N, _)
/-- Window 23's block at a point: the whole array. -/
theorem idx23 : ∀ t : Fin cfg1.N, win1_23.index t = ![0, 0] := (by decide +kernel : ∀ t : Fin grid1.N, _)
/-- Window 24's block at a point: the whole array. -/
theorem idx24 : ∀ t : Fin cfg1.N, win1_24.index t = ![0, 0] := (by decide +kernel : ∀ t : Fin grid1.N, _)
/-- Window 25's block at a point: the whole array. -/
theorem idx25 : ∀ t : Fin cfg1.N, win1_25.index t = ![0, 0] := (by decide +kernel : ∀ t : Fin grid1.N, _)
/-- Window 26's block at a point: the whole array. -/
theorem idx26 : ∀ t : Fin cfg1.N, win1_26.index t = ![0, 0] := (by decide +kernel : ∀ t : Fin grid1.N, _)
/-- Window 27's block at a point: the whole array. -/
theorem idx27 : ∀ t : Fin cfg1.N, win1_27.index t = ![0, 0] := (by decide +kernel : ∀ t : Fin grid1.N, _)
/-- Window 28's block at a point: the point's 512 rows. -/
theorem idx28 : ∀ t : Fin cfg1.N, win1_28.index t = ![t.val, 0] := (by decide +kernel : ∀ t : Fin grid1.N, _)

/-- The result array after the call. -/
theorem final (c : Dev nD) : (dat V c).arrAt (28 : Fin 29) cfg1.N
    = netOf (V c main_v2_0) (V c main_v2_1) (V c main_v15) (V c main_v16) (V c main_v3) (V c main_v4) (V c main_v5) (V c main_v14) (V c main_v9) (V c main_v17) (V c main_v18) (V c main_v19) (V c main_v20) (V c main_v21) (V c main_arg13) (V c main_v22) (V c main_v23) (V c main_v24) (V c main_v25) (V c main_v26) (V c main_arg19) (V c main_v27) (V c main_v28) (V c main_v29) (V c main_v30) (V c main_v31) (V c main_v32) (V c main_v33) := by
  refine (dat V c).arrAt_eq_of_covers (28 : Fin 29) _ (by decide +kernel) fun t _ y => ?_
  blk_simp
  rw [after_28]
  unfold outAt
  refine (congrArg _ (eq_ix2 y)).trans ?_
  have hy : y 1 = (0 : Fin 1) := Subsingleton.elim (α := Fin 1) _ _
  refine (congrArg (fun z => outBlk (F := Ideal) _ _ _ _ _ _ _ _ _ _ _ _ _ _ _ _ _ _ _ _ _ _ _ _ _ _ _ _ (ix2 (y 0) z)) hy).trans ?_
  refine (outBlk_at _ _ _ _ _ _ _ _ _ _ _ _ _ _ _ _ _ _ _ _ _ _ _ _ _ _ _ _ (y 0)).trans ?_
  unfold netOf
  blk_point [iblk, idx0 t, idx1 t, idx2 t, idx3 t, idx4 t, idx5 t, idx6 t, idx7 t, idx8 t, idx9 t, idx10 t, idx11 t, idx12 t, idx13 t, idx14 t, idx15 t, idx16 t, idx17 t, idx18 t, idx19 t, idx20 t, idx21 t, idx22 t, idx23 t, idx24 t, idx25 t, idx26 t, idx27 t, idx28 t]

end Cert.Proof.KI

end
-- ==== Proof.HostVals.lean ====
/-
  The arrays that the TensorCore call reads, at an index, as the program's arguments: the gathered rows, the pieces of the
  first layer's weights, the padded ones, and the vectors.
-/
module

public import proofs.«01_k».proof.Proof.KI.Host
public import Idealize.ShloMosaic.Lib.Pointwise
public import Idealize.ShloMosaic.Lib.Pipeline.ValueKit
public import Idealize.ShloMosaic.Lib.Routing.OpsSet
public import Idealize.ShloMosaic.Lib.Routing.OpsPair

@[expose] public section

set_option maxRecDepth 16384

noncomputable section

namespace Cert.Proof.KI

open Cert.KernelIdeal Cert.KernelIdeal.Gen
open Idealize.ShloMosaic Idealize.ShloMosaic.TcCoe
open Idealize.ShloMosaic.Routing (shape1 shape2 resultIdx?_eq_some scatter_set_hit scatter_set_miss)

/-! ## A table put into the corner of a larger one -/

/-- A scatter of a whole `A × B` table by index words that are all zero: entry `j` of the table goes to the element with `j`'s coordinates. -/
theorem corner_lands {R C A B n : Nat} (d : ScatterDims (shape2 R C) (shape1 n) (shape2 A B)) (huw : d.updateWindowDims = [0, 1])
    (hiw : d.insertedWindowDims = []) (idx : IVec (shape1 n) 32) (hz : ∀ i, idx i = 0#32) (j : (shape2 A B).Idx) (r : Fin R) (c : Fin C) :
    d.resultIdx? j idx = some (ix2 r c) ↔ (j 0).val = r.val ∧ (j 1).val = c.val := by
  have hs : ∀ q, d.start j idx q = 0 := fun q => by
    unfold ScatterDims.start
    split
    · rw [hz]; rfl
    · rfl
  have hkept : d.sKept = [0, 1] := by
    show (shape2 R C).kept d.insertedWindowDims = _
    rw [hiw]
    rfl
  have hw0 : d.window j 0 = (j 0).val := by
    unfold ScatterDims.window
    rw [dif_pos (by rw [hkept]; simp)]
    have q : ∀ X : Fin 2, X = 0 → (j X).val = (j 0).val := fun X h => by subst h; rfl
    exact q _ (by simp [huw, hkept])
  have hw1 : d.window j 1 = (j 1).val := by
    unfold ScatterDims.window
    rw [dif_pos (by rw [hkept]; simp)]
    have q : ∀ X : Fin 2, X = 1 → (j X).val = (j 1).val := fun X h => by subst h; rfl
    exact q _ (by simp [huw, hkept])
  rw [resultIdx?_eq_some]
  constructor
  · intro h
    have h0 := h 0
    have h1 := h 1
    rw [hs, hw0] at h0
    rw [hs, hw1] at h1
    rw [ix2_0] at h0
    rw [ix2_1] at h1
    omega
  · intro h a
    match a with
    | ⟨0, _⟩ =>
      show d.start j idx 0 + (d.window j 0 : Int) = (r.val : Int)
      rw [hs, hw0]; omega
    | ⟨1, _⟩ =>
      show d.start j idx 1 + (d.window j 1 : Int) = (c.val : Int)
      rw [hs, hw1]; omega

/-- That scatter, overwriting, read inside the table's corner: the table's entry. -/
theorem corner_hit {α : Type} {R C A B n : Nat} (d : ScatterDims (shape2 R C) (shape1 n) (shape2 A B)) (huw : d.updateWindowDims = [0, 1])
    (hiw : d.insertedWindowDims = []) (x0 : (shape2 R C).Idx → α) (idx : IVec (shape1 n) 32) (hz : ∀ i, idx i = 0#32) (upd : (shape2 A B).Idx → α)
    (r : Fin R) (c : Fin C) (a : Fin A) (b : Fin B) (hr : a.val = r.val) (hc : b.val = c.val) :
    Host.scatter d (fun _ b => b) x0 idx upd (ix2 r c) = upd (ix2 a b) := by
  refine scatter_set_hit d x0 idx upd _ _ (fun k hk => ?_) (ix2 a b) ((corner_lands d huw hiw idx hz _ r c).2 ⟨hr, hc⟩)
  obtain ⟨h0, h1⟩ := (corner_lands d huw hiw idx hz k r c).1 hk
  rw [eq_ix2 k]
  exact congrArg upd (congrArg₂ ix2 (Fin.ext (h0.trans hr.symm)) (Fin.ext (h1.trans hc.symm)))

/-- Read below the table: the larger one's entry. -/
theorem corner_miss {α : Type} {R C A B n : Nat} (d : ScatterDims (shape2 R C) (shape1 n) (shape2 A B)) (huw : d.updateWindowDims = [0, 1])
    (hiw : d.insertedWindowDims = []) (x0 : (shape2 R C).Idx → α) (idx : IVec (shape1 n) 32) (hz : ∀ i, idx i = 0#32) (upd : (shape2 A B).Idx → α)
    (r : Fin R) (c : Fin C) (hr : A ≤ r.val) : Host.scatter d (fun _ b => b) x0 idx upd (ix2 r c) = x0 (ix2 r c) :=
  scatter_set_miss d x0 idx upd _ fun k hk => by
    have h0 := ((corner_lands d huw hiw idx hz k r c).1 hk).1
    have hk0 : (k 0).val < A := (k 0).isLt
    omega

variable (m : (ℓ : Loc nD τ sig) → Buf (Elt Ideal) ℓ) (d : Dev nD)

/-- An argument at the TensorCore call's host code is the argument. -/
theorem VS_arg (r : Ref sig .tc) (h : r ∉ wrA) (h0 : (Proc.devRef .tc r : DevRef τ sig) ≠ Proc.devRef .tc main_v2_0)
    (h1 : (Proc.devRef .tc r : DevRef τ sig) ≠ Proc.devRef .tc main_v2_1) :
    VS m d (Proc.devRef .tc r) = m (d, Proc.devRef .tc r) := (VS_keeps m d _ h0 h1).trans (VA_keeps m d r h)

/-- The users' weights. -/
theorem v3_at (k : Fin 128) (l : Fin 1024) : (VB m d (Proc.devRef .tc main_v3) : FVec Ideal S128x1024 .f32) (ix2 k l) = (m (d, Proc.devRef .tc main_arg7) : FVec Ideal S261x1024 .f32) (ix2 (⟨k.val, by omega⟩ : Fin 261) l) := by
  refine Eq.trans ?_ (congrFun (VS_arg m d main_arg7 (by decide) (by decide) (by decide)) _)
  unfold VB opsB
  after_results
  pointwise

/-- The items' weights. -/
theorem v4_at (k : Fin 128) (l : Fin 1024) : (VB m d (Proc.devRef .tc main_v4) : FVec Ideal S128x1024 .f32) (ix2 k l) = (m (d, Proc.devRef .tc main_arg7) : FVec Ideal S261x1024 .f32) (ix2 (⟨128 + k.val, by omega⟩ : Fin 261) l) := by
  refine Eq.trans ?_ (congrFun (VS_arg m d main_arg7 (by decide) (by decide) (by decide)) _)
  unfold VB opsB
  after_results
  pointwise

/-- The time's weights. -/
theorem v5_at (l : Fin 1024) : (VB m d (Proc.devRef .tc main_v5) : FVec Ideal S1x1024 .f32) (ix2 0 l) = (m (d, Proc.devRef .tc main_arg7) : FVec Ideal S261x1024 .f32) (ix2 (⟨256, by omega⟩ : Fin 261) l) := by
  refine Eq.trans ?_ (congrFun (VS_arg m d main_arg7 (by decide) (by decide) (by decide)) _)
  unfold VB opsB
  after_results
  pointwise

/-- The times. -/
theorem v15_at (r : Fin 16384) : (VB m d (Proc.devRef .tc main_v15) : FVec Ideal S16384x1 .f32) (ix2 r 0) = (m (d, Proc.devRef .tc main_arg2) : FVec Ideal S16384 .f32) (ix1 r) := by
  refine Eq.trans ?_ (congrFun (VS_arg m d main_arg2 (by decide) (by decide) (by decide)) _)
  unfold VB opsB
  after_results
  pointwise

/-- The days. -/
theorem v16_at (r : Fin 16384) : (VB m d (Proc.devRef .tc main_v16) : IVec S16384x1 32) (ix2 r 0) = (m (d, Proc.devRef .tc main_arg3) : IVec S16384 32) (ix1 r) := by
  refine Eq.trans ?_ (congrFun (VS_arg m d main_arg3 (by decide) (by decide) (by decide)) _)
  unfold VB opsB
  after_results
  pointwise

/-- Argument 8 as a row. -/
theorem v17_at (k : Fin 1024) : (VB m d (Proc.devRef .tc main_v17) : FVec Ideal S1x1024 .f32) (ix2 0 k) = (m (d, Proc.devRef .tc main_arg8) : FVec Ideal S1024 .f32) (ix1 k) := by
  refine Eq.trans ?_ (congrFun (VS_arg m d main_arg8 (by decide) (by decide) (by decide)) _)
  unfold VB opsB
  after_results
  pointwise

/-- Argument 9 as a row. -/
theorem v18_at (k : Fin 1024) : (VB m d (Proc.devRef .tc main_v18) : FVec Ideal S1x1024 .f32) (ix2 0 k) = (m (d, Proc.devRef .tc main_arg9) : FVec Ideal S1024 .f32) (ix1 k) := by
  refine Eq.trans ?_ (congrFun (VS_arg m d main_arg9 (by decide) (by decide) (by decide)) _)
  unfold VB opsB
  after_results
  pointwise

/-- Argument 10 as a row. -/
theorem v19_at (k : Fin 1024) : (VB m d (Proc.devRef .tc main_v19) : FVec Ideal S1x1024 .f32) (ix2 0 k) = (m (d, Proc.devRef .tc main_arg10) : FVec Ideal S1024 .f32) (ix1 k) := by
  refine Eq.trans ?_ (congrFun (VS_arg m d main_arg10 (by decide) (by decide) (by decide)) _)
  unfold VB opsB
  after_results
  pointwise

/-- Argument 11 as a row. -/
theorem v20_at (k : Fin 1024) : (VB m d (Proc.devRef .tc main_v20) : FVec Ideal S1x1024 .f32) (ix2 0 k) = (m (d, Proc.devRef .tc main_arg11) : FVec Ideal S1024 .f32) (ix1 k) := by
  refine Eq.trans ?_ (congrFun (VS_arg m d main_arg11 (by decide) (by decide) (by decide)) _)
  unfold VB opsB
  after_results
  pointwise

/-- Argument 12 as a row. -/
theorem v21_at (k : Fin 1024) : (VB m d (Proc.devRef .tc main_v21) : FVec Ideal S1x1024 .f32) (ix2 0 k) = (m (d, Proc.devRef .tc main_arg12) : FVec Ideal S1024 .f32) (ix1 k) := by
  refine Eq.trans ?_ (congrFun (VS_arg m d main_arg12 (by decide) (by decide) (by decide)) _)
  unfold VB opsB
  after_results
  pointwise

/-- Argument 14 as a row. -/
theorem v22_at (k : Fin 512) : (VB m d (Proc.devRef .tc main_v22) : FVec Ideal S1x512 .f32) (ix2 0 k) = (m (d, Proc.devRef .tc main_arg14) : FVec Ideal S512 .f32) (ix1 k) := by
  refine Eq.trans ?_ (congrFun (VS_arg m d main_arg14 (by decide) (by decide) (by decide)) _)
  unfold VB opsB
  after_results
  pointwise

/-- Argument 15 as a row. -/
theorem v23_at (k : Fin 512) : (VB m d (Proc.devRef .tc main_v23) : FVec Ideal S1x512 .f32) (ix2 0 k) = (m (d, Proc.devRef .tc main_arg15) : FVec Ideal S512 .f32) (ix1 k) := by
  refine Eq.trans ?_ (congrFun (VS_arg m d main_arg15 (by decide) (by decide) (by decide)) _)
  unfold VB opsB
  after_results
  pointwise

/-- Argument 16 as a row. -/
theorem v24_at (k : Fin 512) : (VB m d (Proc.devRef .tc main_v24) : FVec Ideal S1x512 .f32) (ix2 0 k) = (m (d, Proc.devRef .tc main_arg16) : FVec Ideal S512 .f32) (ix1 k) := by
  refine Eq.trans ?_ (congrFun (VS_arg m d main_arg16 (by decide) (by decide) (by decide)) _)
  unfold VB opsB
  after_results
  pointwise

/-- Argument 17 as a row. -/
theorem v25_at (k : Fin 512) : (VB m d (Proc.devRef .tc main_v25) : FVec Ideal S1x512 .f32) (ix2 0 k) = (m (d, Proc.devRef .tc main_arg17) : FVec Ideal S512 .f32) (ix1 k) := by
  refine Eq.trans ?_ (congrFun (VS_arg m d main_arg17 (by decide) (by decide) (by decide)) _)
  unfold VB opsB
  after_results
  pointwise

/-- Argument 18 as a row. -/
theorem v26_at (k : Fin 512) : (VB m d (Proc.devRef .tc main_v26) : FVec Ideal S1x512 .f32) (ix2 0 k) = (m (d, Proc.devRef .tc main_arg18) : FVec Ideal S512 .f32) (ix1 k) := by
  refine Eq.trans ?_ (congrFun (VS_arg m d main_arg18 (by decide) (by decide) (by decide)) _)
  unfold VB opsB
  after_results
  pointwise

/-- Argument 20 as a row. -/
theorem v27_at (k : Fin 256) : (VB m d (Proc.devRef .tc main_v27) : FVec Ideal S1x256 .f32) (ix2 0 k) = (m (d, Proc.devRef .tc main_arg20) : FVec Ideal S256 .f32) (ix1 k) := by
  refine Eq.trans ?_ (congrFun (VS_arg m d main_arg20 (by decide) (by decide) (by decide)) _)
  unfold VB opsB
  after_results
  pointwise

/-- Argument 21 as a row. -/
theorem v28_at (k : Fin 256) : (VB m d (Proc.devRef .tc main_v28) : FVec Ideal S1x256 .f32) (ix2 0 k) = (m (d, Proc.devRef .tc main_arg21) : FVec Ideal S256 .f32) (ix1 k) := by
  refine Eq.trans ?_ (congrFun (VS_arg m d main_arg21 (by decide) (by decide) (by decide)) _)
  unfold VB opsB
  after_results
  pointwise

/-- Argument 22 as a row. -/
theorem v29_at (k : Fin 256) : (VB m d (Proc.devRef .tc main_v29) : FVec Ideal S1x256 .f32) (ix2 0 k) = (m (d, Proc.devRef .tc main_arg22) : FVec Ideal S256 .f32) (ix1 k) := by
  refine Eq.trans ?_ (congrFun (VS_arg m d main_arg22 (by decide) (by decide) (by decide)) _)
  unfold VB opsB
  after_results
  pointwise

/-- Argument 23 as a row. -/
theorem v30_at (k : Fin 256) : (VB m d (Proc.devRef .tc main_v30) : FVec Ideal S1x256 .f32) (ix2 0 k) = (m (d, Proc.devRef .tc main_arg23) : FVec Ideal S256 .f32) (ix1 k) := by
  refine Eq.trans ?_ (congrFun (VS_arg m d main_arg23 (by decide) (by decide) (by decide)) _)
  unfold VB opsB
  after_results
  pointwise

/-- Argument 24 as a row. -/
theorem v31_at (k : Fin 256) : (VB m d (Proc.devRef .tc main_v31) : FVec Ideal S1x256 .f32) (ix2 0 k) = (m (d, Proc.devRef .tc main_arg24) : FVec Ideal S256 .f32) (ix1 k) := by
  refine Eq.trans ?_ (congrFun (VS_arg m d main_arg24 (by decide) (by decide) (by decide)) _)
  unfold VB opsB
  after_results
  pointwise

/-- The last weights as a row. -/
theorem v32_at (k : Fin 256) : (VB m d (Proc.devRef .tc main_v32) : FVec Ideal S1x256 .f32) (ix2 0 k) = (m (d, Proc.devRef .tc main_arg25) : FVec Ideal S256x1 .f32) (ix2 k 0) := by
  refine Eq.trans ?_ (congrFun (VS_arg m d main_arg25 (by decide) (by decide) (by decide)) _)
  unfold VB opsB
  after_results
  pointwise

/-- The last bias. -/
theorem v33_at  : (VB m d (Proc.devRef .tc main_v33) : FVec Ideal S1x1 .f32) (ix2 0 0) = (m (d, Proc.devRef .tc main_arg26) : FVec Ideal S1 .f32) (ix1 0) := by
  refine Eq.trans ?_ (congrFun (VS_arg m d main_arg26 (by decide) (by decide) (by decide)) _)
  unfold VB opsB
  after_results
  pointwise

/-- The days' weights, in the first four rows of a padded array. -/
theorem v9_at (k : Fin 128) (hk : k.val < 4) (l : Fin 1024) : (VB m d (Proc.devRef .tc main_v9) : FVec Ideal S128x1024 .f32) (ix2 k l)
    = (m (d, Proc.devRef .tc main_arg7) : FVec Ideal S261x1024 .f32) (ix2 (⟨257 + k.val, by omega⟩ : Fin 261) l) := by
  refine Eq.trans ?_ (congrFun (VS_arg m d main_arg7 (by decide) (by decide) (by decide)) _)
  unfold VB opsB
  after_results
  refine (corner_hit scatter_S128x1024_S1_S4x1024_01_n_0_0 rfl rfl _ _ (fun i => rfl) _ k l (⟨k.val, hk⟩ : Fin 4) l rfl rfl).trans ?_
  pointwise

/-- Below them the padding is zero. -/
theorem v9_zero (k : Fin 128) (hk : 4 ≤ k.val) (l : Fin 1024) : (VB m d (Proc.devRef .tc main_v9) : FVec Ideal S128x1024 .f32) (ix2 k l) = (0 : EReal) := by
  unfold VB opsB
  after_results
  refine (corner_miss scatter_S128x1024_S1_S4x1024_01_n_0_0 rfl rfl _ _ (fun i => rfl) _ k l hk).trans ?_
  pointwise

/-- The days' table, in the corner of a padded array. -/
theorem v14_at (q : Fin 8) (hq : q.val < 7) (k : Fin 128) (hk : k.val < 4) : (VB m d (Proc.devRef .tc main_v14) : FVec Ideal S8x128 .f32) (ix2 q k)
    = (m (d, Proc.devRef .tc main_arg6) : FVec Ideal S7x4 .f32) (ix2 (⟨q.val, hq⟩ : Fin 7) (⟨k.val, hk⟩ : Fin 4)) := by
  refine Eq.trans ?_ (congrFun (VS_arg m d main_arg6 (by decide) (by decide) (by decide)) _)
  unfold VB opsB
  after_results
  refine (corner_hit scatter_S8x128_S2_S7x4_01_n_01_0 rfl rfl _ _ (fun i => ?_) _ q k (⟨q.val, hq⟩ : Fin 7) (⟨k.val, hk⟩ : Fin 4) rfl rfl).trans rfl
  obtain ⟨a, rfl⟩ : ∃ a : Fin 2, i = ix1 a := ⟨i 0, eq_ix1 i⟩
  match a with
  | ⟨0, _⟩ => pointwise
  | ⟨1, _⟩ => pointwise

/-- The users' ids as the SparseCore call reads them, 128 to a row. -/
theorem v0_at (r : Fin 16384) : idAt (F := Ideal) (EA m d main_v0) r = (m (d, Proc.devRef .tc main_arg0) : IVec S16384 32) (ix1 r) := by
  unfold idAt
  show (VA m d (Proc.devRef .tc main_v0) : IVec S128x128 32) _ = _
  unfold VA opsA
  after_results
  pointwise
  exact congrArg _ (congrArg ix1 (Fin.ext (Nat.div_add_mod' r.val 128)))

/-- The users' rows: the table's row at each id in range. -/
theorem v2_0_at (r : Fin 16384) (k : Fin 128) (h : ((m (d, Proc.devRef .tc main_arg0) : IVec S16384 32) (ix1 r)).toNat < 100000) :
    (VB m d (Proc.devRef .tc main_v2_0) : FVec Ideal S16384x128 .f32) (ix2 r k)
      = (m (d, Proc.devRef .tc main_arg4) : FVec Ideal S100000x128 .f32) (ix2 (⟨((m (d, Proc.devRef .tc main_arg0) : IVec S16384 32) (ix1 r)).toNat, h⟩ : Fin 100000) k) := by
  refine (congrFun (VB_keeps m d main_v2_0 (by decide)) _).trans ?_
  refine (congrFun (((Function.update_of_ne (by decide) _ _).trans (Function.update_self _ _ _) : VS m d (Proc.devRef .tc main_v2_0) = gathered (F := Ideal) (EA m d main_v0) (EA m d main_arg4))) _).trans ?_
  refine Eq.trans ?_ (congrFun (VA_keeps m d main_arg4 (by decide)) _)
  refine congrArg (EA m d main_arg4 : FVec Ideal S100000x128 .f32) (at2_ext ?_ rfl)
  show (idAt (F := Ideal) (EA m d main_v0) r).toNat % 100000 = _
  rw [v0_at, Nat.mod_eq_of_lt h]
  rfl

/-- The items' ids as the SparseCore call reads them, 128 to a row. -/
theorem v1_at (r : Fin 16384) : idAt (F := Ideal) (EA m d main_v1) r = (m (d, Proc.devRef .tc main_arg1) : IVec S16384 32) (ix1 r) := by
  unfold idAt
  show (VA m d (Proc.devRef .tc main_v1) : IVec S128x128 32) _ = _
  unfold VA opsA
  after_results
  pointwise
  exact congrArg _ (congrArg ix1 (Fin.ext (Nat.div_add_mod' r.val 128)))

/-- The items' rows: the table's row at each id in range. -/
theorem v2_1_at (r : Fin 16384) (k : Fin 128) (h : ((m (d, Proc.devRef .tc main_arg1) : IVec S16384 32) (ix1 r)).toNat < 100000) :
    (VB m d (Proc.devRef .tc main_v2_1) : FVec Ideal S16384x128 .f32) (ix2 r k)
      = (m (d, Proc.devRef .tc main_arg5) : FVec Ideal S100000x128 .f32) (ix2 (⟨((m (d, Proc.devRef .tc main_arg1) : IVec S16384 32) (ix1 r)).toNat, h⟩ : Fin 100000) k) := by
  refine (congrFun (VB_keeps m d main_v2_1 (by decide)) _).trans ?_
  refine (congrFun ((Function.update_self _ _ _ : VS m d (Proc.devRef .tc main_v2_1) = gathered (F := Ideal) (EA m d main_v1) (EA m d main_arg5))) _).trans ?_
  refine Eq.trans ?_ (congrFun (VA_keeps m d main_arg5 (by decide)) _)
  refine congrArg (EA m d main_arg5 : FVec Ideal S100000x128 .f32) (at2_ext ?_ rfl)
  show (idAt (F := Ideal) (EA m d main_v1) r).toNat % 100000 = _
  rw [v1_at, Nat.mod_eq_of_lt h]
  rfl

end Cert.Proof.KI

end
-- ==== Proof.Ref.lean ====
/-
  The reference's result at a row: the network on the row's first product, whose inputs are the tables' rows at the ids in range.
-/
module

public import proofs.«01_k».proof.Proof.Net
public import proofs.«01_k».proof.Proof.Gen.ReferenceIdeal.Run
public import Idealize.ShloMosaic.Lib.Pointwise
public import Idealize.ShloMosaic.Lib.Routing.Ops
public import Idealize.ShloMosaic.Lib.Routing.OpsPair

@[expose] public section

set_option maxRecDepth 16384

noncomputable section

namespace Cert.Proof.RI

open Cert.ReferenceIdeal Cert.ReferenceIdeal.Gen
open Idealize.ShloMosaic Idealize.ShloMosaic.TcCoe
open Cert.Proof.Net

/-! ## The reference's text in pieces -/

/-- Ids as a column, a negative one counted from the table's end `n`. -/
def idCol (n : BitVec 32) (ids : IVec S16384 32) : IVec S16384x1 32 :=
  broadcastInDim S16384x1 ![0] bcast_S16384_S16384x1_0
    (select (cmpi .slt ids (broadcastInDim S16384 ![] bcast_S_S16384 (constantI S_ 32 0#32)))
      (addi ids (broadcastInDim S16384 ![] bcast_S_S16384 (constantI S_ 32 n))) ids)

/-- Which ids lie between zero and the table's last row `t`. -/
def inside (t : BitVec 32) (ix : IVec S16384x1 32) : IVec S16384 1 :=
  Host.reduce IntOp.andi (andi (cmpi .sge ix (broadcastInDim S16384x1 ![] bcast_S_S16384x1 (constantI S_ 32 0#32)))
    (cmpi .sle ix (broadcastInDim S16384x1 ![0, 1] bcast_S1x1_S16384x1_0_1 (broadcastInDim S1x1 ![1] bcast_S1_S1x1_1 (constantI S1 32 t)))))
    (constantI S_ 1 1#1) reducesTo_S16384x1_S16384_d1 h_S_

/-- The rows of a large table at the ids, undefined where an id is outside. -/
def takeRow (tab : FVec Ideal S100000x128 .f32) (ids : IVec S16384 32) : FVec Ideal S16384x128 .f32 :=
  select (broadcastInDim S16384x128 ![0] bcast_S16384_S16384x128_0 (inside 99999#32 (idCol 100000#32 ids)))
    (Host.gather gather_S100000x128_S16384x1_S16384x128_1_0_n_n_0_1_1128 tab (idCol 100000#32 ids))
    (broadcastInDim S16384x128 ![] bcast_S_S16384x128 (constant S_ .f32 0x7FC00000#32))

/-- The rows of the days' table at the days. -/
def takeDay (tab : FVec Ideal S7x4 .f32) (ids : IVec S16384 32) : FVec Ideal S16384x4 .f32 :=
  select (broadcastInDim S16384x4 ![0] bcast_S16384_S16384x4_0 (inside 6#32 (idCol 7#32 ids)))
    (Host.gather gather_S7x4_S16384x1_S16384x4_1_0_n_n_0_1_14 tab (idCol 7#32 ids))
    (broadcastInDim S16384x4 ![] bcast_S_S16384x4 (constant S_ .f32 0x7FC00000#32))

/-- The network's input: the user's row, the item's, the time, the day's. -/
def input (u i : FVec Ideal S16384x128 .f32) (t : FVec Ideal S16384 .f32) (dy : FVec Ideal S16384x4 .f32) : FVec Ideal S16384x261 .f32 :=
  concatenate S16384x261 1 [⟨S16384x128, u⟩, ⟨S16384x128, i⟩, ⟨S16384x1, broadcastInDim S16384x1 ![0] bcast_S16384_S16384x1_0 t⟩, ⟨S16384x4, dy⟩]
    concatenates_S16384x128_S16384x128_S16384x1_S16384x4_S16384x261_d1

/-- Layer 0: the product, the bias, the batch norm, the rectifier. -/
def layer0 (x : FVec Ideal S16384x261 .f32) (w : FVec Ideal S261x1024 .f32) (b g be mu v : FVec Ideal S1024 .f32) : FVec Ideal S16384x1024 .f32 :=
  let row : FVec Ideal S1024 .f32 → FVec Ideal S16384x1024 .f32 := fun y =>
    broadcastInDim S16384x1024 ![0, 1] bcast_S1x1024_S16384x1024_0_1 (broadcastInDim S1x1024 ![1] bcast_S1024_S1x1024_1 y)
  maximumf (addf (Host.divf (mulf (row g) (subf (addf (Host.dotGeneral dot_S16384x261_S261x1024_S16384x1024_1_0_0_1_n_n none x w) (row b)) (row mu)))
    (row (Host.sqrt (addf v (broadcastInDim S1024 ![] bcast_S_S1024 (constant S_ .f32 0x3727C5AC#32)))))) (row be))
    (broadcastInDim S16384x1024 ![] bcast_S_S16384x1024 (constant S_ .f32 0x00000000#32))

/-- Layer 1: the product, the bias, the batch norm, the rectifier. -/
def layer1 (x : FVec Ideal S16384x1024 .f32) (w : FVec Ideal S1024x512 .f32) (b g be mu v : FVec Ideal S512 .f32) : FVec Ideal S16384x512 .f32 :=
  let row : FVec Ideal S512 .f32 → FVec Ideal S16384x512 .f32 := fun y =>
    broadcastInDim S16384x512 ![0, 1] bcast_S1x512_S16384x512_0_1 (broadcastInDim S1x512 ![1] bcast_S512_S1x512_1 y)
  maximumf (addf (Host.divf (mulf (row g) (subf (addf (Host.dotGeneral dot_S16384x1024_S1024x512_S16384x512_1_0_0_1_n_n none x w) (row b)) (row mu)))
    (row (Host.sqrt (addf v (broadcastInDim S512 ![] bcast_S_S512 (constant S_ .f32 0x3727C5AC#32)))))) (row be))
    (broadcastInDim S16384x512 ![] bcast_S_S16384x512 (constant S_ .f32 0x00000000#32))

/-- Layer 2: the product, the bias, the batch norm, the rectifier. -/
def layer2 (x : FVec Ideal S16384x512 .f32) (w : FVec Ideal S512x256 .f32) (b g be mu v : FVec Ideal S256 .f32) : FVec Ideal S16384x256 .f32 :=
  let row : FVec Ideal S256 .f32 → FVec Ideal S16384x256 .f32 := fun y =>
    broadcastInDim S16384x256 ![0, 1] bcast_S1x256_S16384x256_0_1 (broadcastInDim S1x256 ![1] bcast_S256_S1x256_1 y)
  maximumf (addf (Host.divf (mulf (row g) (subf (addf (Host.dotGeneral dot_S16384x512_S512x256_S16384x256_1_0_0_1_n_n none x w) (row b)) (row mu)))
    (row (Host.sqrt (addf v (broadcastInDim S256 ![] bcast_S_S256 (constant S_ .f32 0x3727C5AC#32)))))) (row be))
    (broadcastInDim S16384x256 ![] bcast_S_S16384x256 (constant S_ .f32 0x00000000#32))

/-- The last step. -/
def outR (x : FVec Ideal S16384x256 .f32) (wf : FVec Ideal S256x1 .f32) (bf : FVec Ideal S1 .f32) : FVec Ideal S16384x1 .f32 :=
  mulf (Host.divf (broadcastInDim S16384x1 ![] bcast_S_S16384x1 (constant S_ .f32 0x3F800000#32))
    (addf (broadcastInDim S16384x1 ![] bcast_S_S16384x1 (constant S_ .f32 0x3F800000#32))
      (Host.exp (Host.negf (addf (Host.dotGeneral dot_S16384x256_S256x1_S16384x1_1_0_0_1_n_n none x wf)
        (broadcastInDim S16384x1 ![0, 1] bcast_S1x1_S16384x1_0_1 (broadcastInDim S1x1 ![1] bcast_S1_S1x1_1 bf)))))))
    (broadcastInDim S16384x1 ![] bcast_S_S16384x1 (constant S_ .f32 0x40A00000#32))

/-- The reference of its 27 arguments. -/
def resOf (a0 a1 : IVec S16384 32) (a2 : FVec Ideal S16384 .f32) (a3 : IVec S16384 32) (a4 a5 : FVec Ideal S100000x128 .f32) (a6 : FVec Ideal S7x4 .f32)
  (a7 : FVec Ideal S261x1024 .f32) (a8 a9 a10 a11 a12 : FVec Ideal S1024 .f32) (a13 : FVec Ideal S1024x512 .f32) (a14 a15 a16 a17 a18 : FVec Ideal S512 .f32)
  (a19 : FVec Ideal S512x256 .f32) (a20 a21 a22 a23 a24 : FVec Ideal S256 .f32) (a25 : FVec Ideal S256x1 .f32) (a26 : FVec Ideal S1 .f32) : FVec Ideal S16384x1 .f32 :=
  outR (layer2 (layer1 (layer0 (input (takeRow a4 a0) (takeRow a5 a1) a2 (takeDay a6 a3)) a7 a8 a9 a10 a11 a12) a13 a14 a15 a16 a17 a18) a19 a20 a21 a22 a23 a24) a25 a26

/-- The reference's result is its pieces put together. -/
theorem res_eq (m : (ℓ : Loc nD τ sig) → Buf (Elt Ideal) ℓ) (c : Dev nD) : Value.res_main_v76 m c
    = resOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) := rfl

/-! ## Each piece at an index -/

/-- An id that is no negative number is itself. -/
theorem idCol_at (n : BitVec 32) (ids : IVec S16384 32) (r : Fin 16384) (h : (ids (ix1 r)).toNat < 2 ^ 31) : idCol n ids (ix2 r 0) = ids (ix1 r) := by
  unfold idCol
  pointwise
  exact Routing.wrap_of_lt _ _ h

/-- An id within the table passes the test. -/
theorem inside_at (t : BitVec 32) (ht : t.toNat < 2 ^ 31) (ix : IVec S16384x1 32) (r : Fin 16384) (h : (ix (ix2 r 0)).toNat ≤ t.toNat) :
    inside t ix (ix1 r) = 1#1 := by
  unfold inside
  pointwise
  have h0 : IntOp.cmpi .sge (ix (ix2 r 0)) 0#32 = 1#1 := by
    have e : (ix (ix2 r 0)).toInt = (ix (ix2 r 0)).toNat := BitVec.toInt_eq_toNat_of_lt (by omega)
    simp [IntOp.cmpi, BitVec.sle_eq_decide, e]
  have h1 : IntOp.cmpi .sle (ix (ix2 r 0)) t = 1#1 := by
    have e : (ix (ix2 r 0)).toInt = (ix (ix2 r 0)).toNat := BitVec.toInt_eq_toNat_of_lt (by omega)
    have e' : t.toInt = t.toNat := BitVec.toInt_eq_toNat_of_lt (by omega)
    simp [IntOp.cmpi, BitVec.sle_eq_decide, e, e', h]
  rw [Finset.univ_unique, Finset.fold_singleton]
  refine (congrArg₂ (fun p q => IntOp.andi (IntOp.andi p q) 1#1) h0 h1).trans ?_
  decide

/-- A row taken at an id in range is the table's row. -/
theorem takeRow_at (tab : FVec Ideal S100000x128 .f32) (ids : IVec S16384 32) (r : Fin 16384) (k : Fin 128) (h : (ids (ix1 r)).toNat < 100000) :
    takeRow tab ids (ix2 r k) = tab (ix2 (⟨(ids (ix1 r)).toNat, h⟩ : Fin 100000) k) := by
  have hc := idCol_at 100000#32 ids r (by omega)
  unfold takeRow
  show Scalar.select _ _ _ = _
  have hm : broadcastInDim S16384x128 ![0] bcast_S16384_S16384x128_0 (inside 99999#32 (idCol 100000#32 ids)) (ix2 r k) = 1#1 := by
    pointwise
    exact inside_at _ (by decide) _ r (by rw [hc]; show _ ≤ 99999; omega)
  rw [hm]
  refine (if_pos rfl).trans ?_
  exact Routing.gather_row gather_S100000x128_S16384x1_S16384x128_1_0_n_n_0_1_1128 rfl rfl rfl rfl rfl tab (idCol 100000#32 ids) r k
    (⟨(ids (ix1 r)).toNat, h⟩ : Fin 100000) (hc.trans (by simp)) (by decide)

/-- A day's row taken at a day in range is the table's row. -/
theorem takeDay_at (tab : FVec Ideal S7x4 .f32) (ids : IVec S16384 32) (r : Fin 16384) (k : Fin 4) (h : (ids (ix1 r)).toNat < 7) :
    takeDay tab ids (ix2 r k) = tab (ix2 (⟨(ids (ix1 r)).toNat, h⟩ : Fin 7) k) := by
  have hc := idCol_at 7#32 ids r (by omega)
  unfold takeDay
  show Scalar.select _ _ _ = _
  have hm : broadcastInDim S16384x4 ![0] bcast_S16384_S16384x4_0 (inside 6#32 (idCol 7#32 ids)) (ix2 r k) = 1#1 := by
    pointwise
    exact inside_at _ (by decide) _ r (by rw [hc]; show _ ≤ 6; omega)
  rw [hm]
  refine (if_pos rfl).trans ?_
  exact Routing.gather_row gather_S7x4_S16384x1_S16384x4_1_0_n_n_0_1_14 rfl rfl rfl rfl rfl tab (idCol 7#32 ids) r k
    (⟨(ids (ix1 r)).toNat, h⟩ : Fin 7) (hc.trans (by simp)) (by decide)

/-- Layer 0 at an index. -/
theorem layer0_at (x : FVec Ideal S16384x261 .f32) (w : FVec Ideal S261x1024 .f32) (b g be mu v : FVec Ideal S1024 .f32) (r : Fin 16384) (n : Fin 1024) :
    layer0 x w b g be mu v (ix2 r n)
      = actR (g (ix1 n)) (be (ix1 n)) (mu (ix1 n)) (v (ix1 n)) ((∑ k : Fin 261, x (ix2 r k) * w (ix2 k n)) + b (ix1 n)) := by
  unfold layer0 actR eps
  pointwise

/-- Layer 1 at an index. -/
theorem layer1_at (x : FVec Ideal S16384x1024 .f32) (w : FVec Ideal S1024x512 .f32) (b g be mu v : FVec Ideal S512 .f32) (r : Fin 16384) (n : Fin 512) :
    layer1 x w b g be mu v (ix2 r n)
      = actR (g (ix1 n)) (be (ix1 n)) (mu (ix1 n)) (v (ix1 n)) ((∑ k : Fin 1024, x (ix2 r k) * w (ix2 k n)) + b (ix1 n)) := by
  unfold layer1 actR eps
  pointwise

/-- Layer 2 at an index. -/
theorem layer2_at (x : FVec Ideal S16384x512 .f32) (w : FVec Ideal S512x256 .f32) (b g be mu v : FVec Ideal S256 .f32) (r : Fin 16384) (n : Fin 256) :
    layer2 x w b g be mu v (ix2 r n)
      = actR (g (ix1 n)) (be (ix1 n)) (mu (ix1 n)) (v (ix1 n)) ((∑ k : Fin 512, x (ix2 r k) * w (ix2 k n)) + b (ix1 n)) := by
  unfold layer2 actR eps
  pointwise

/-- The last step at a row. -/
theorem outR_at (x : FVec Ideal S16384x256 .f32) (wf : FVec Ideal S256x1 .f32) (bf : FVec Ideal S1 .f32) (r : Fin 16384) :
    outR x wf bf (ix2 r 0) = lastR ((∑ p : Fin 256, x (ix2 r p) * wf (ix2 p 0)) + bf (ix1 0)) := by
  unfold outR lastR five
  pointwise

/-- The first product at one column, in the input's four parts: the user's row, the item's, the time, the day's. -/
def parts (u i : Fin 128 → EReal) (t : EReal) (dy : Fin 4 → EReal) (w : Fin 261 → EReal) : EReal :=
  (((∑ k : Fin 128, u k * w ⟨k.val, by omega⟩) + ∑ k : Fin 128, i k * w ⟨128 + k.val, by omega⟩) + t * w ⟨256, by omega⟩)
    + ∑ k : Fin 4, dy k * w ⟨257 + k.val, by omega⟩

/-- A sum over 261 cut into 128, 128, 1 and 4. -/
theorem sum_parts (f : Fin 261 → EReal) : ∑ k, f k
    = (((∑ k : Fin 128, f ⟨k.val, by omega⟩) + ∑ k : Fin 128, f ⟨128 + k.val, by omega⟩) + f ⟨256, by omega⟩) + ∑ k : Fin 4, f ⟨257 + k.val, by omega⟩ := by
  have e1 : ∑ k, f k = (∑ k : Fin 257, f ⟨k.val, by omega⟩) + ∑ k : Fin 4, f ⟨257 + k.val, by omega⟩ := Fin.sum_univ_add (a := 257) (b := 4) f
  have e2 : (∑ k : Fin 257, f ⟨k.val, by omega⟩) = (∑ k : Fin 256, f ⟨k.val, by omega⟩) + f ⟨256, by omega⟩ :=
    Fin.sum_univ_castSucc (n := 256) (fun k => f ⟨k.val, by omega⟩)
  have e3 : (∑ k : Fin 256, f ⟨k.val, by omega⟩) = (∑ k : Fin 128, f ⟨k.val, by omega⟩) + ∑ k : Fin 128, f ⟨128 + k.val, by omega⟩ :=
    Fin.sum_univ_add (a := 128) (b := 128) (fun k => f ⟨k.val, by omega⟩)
  rw [e1, e2, e3]

/-- The first product over the 261 inputs, cut where the input's four parts meet. -/
theorem input_sum (u i : FVec Ideal S16384x128 .f32) (t : FVec Ideal S16384 .f32) (dy : FVec Ideal S16384x4 .f32) (w : FVec Ideal S261x1024 .f32)
    (r : Fin 16384) (l : Fin 1024) : ∑ k : Fin 261, input u i t dy (ix2 r k) * w (ix2 k l)
      = (((∑ k : Fin 128, u (ix2 r k) * w (ix2 (⟨k.val, by omega⟩ : Fin 261) l)) + ∑ k : Fin 128, i (ix2 r k) * w (ix2 (⟨128 + k.val, by omega⟩ : Fin 261) l))
          + t (ix1 r) * w (ix2 (⟨256, by omega⟩ : Fin 261) l)) + ∑ k : Fin 4, dy (ix2 r k) * w (ix2 (⟨257 + k.val, by omega⟩ : Fin 261) l) := by
  rw [sum_parts]
  have hu : ∀ k : Fin 128, input u i t dy (ix2 r (⟨k.val, by omega⟩ : Fin 261)) = u (ix2 r k) := fun k => by
    unfold input
    pointwise
  have hi : ∀ k : Fin 128, input u i t dy (ix2 r (⟨128 + k.val, by omega⟩ : Fin 261)) = i (ix2 r k) := fun k => by
    unfold input
    pointwise
  have ht : input u i t dy (ix2 r (⟨256, by omega⟩ : Fin 261)) = t (ix1 r) := by
    unfold input
    pointwise
  have hd : ∀ k : Fin 4, input u i t dy (ix2 r (⟨257 + k.val, by omega⟩ : Fin 261)) = dy (ix2 r k) := fun k => by
    unfold input
    pointwise
    match k with
    | 0 => rfl
    | 1 => rfl
    | 2 => rfl
    | 3 => rfl
  simp only [hu, hi, ht, hd]

section
variable (a0 a1 : IVec S16384 32) (a2 : FVec Ideal S16384 .f32) (a3 : IVec S16384 32) (a4 a5 : FVec Ideal S100000x128 .f32) (a6 : FVec Ideal S7x4 .f32)
  (a7 : FVec Ideal S261x1024 .f32) (a8 a9 a10 a11 a12 : FVec Ideal S1024 .f32) (a13 : FVec Ideal S1024x512 .f32) (a14 a15 a16 a17 a18 : FVec Ideal S512 .f32)
  (a19 : FVec Ideal S512x256 .f32) (a20 a21 a22 a23 a24 : FVec Ideal S256 .f32) (a25 : FVec Ideal S256x1 .f32) (a26 : FVec Ideal S1 .f32)

/-- The reference at a row whose ids and day are in range: the network on the product of the four parts with their weights. -/
theorem resOf_at (r : Fin 16384) (h0 : (a0 (ix1 r)).toNat < 100000) (h1 : (a1 (ix1 r)).toNat < 100000) (h3 : (a3 (ix1 r)).toNat < 7) :
    resOf a0 a1 a2 a3 a4 a5 a6 a7 a8 a9 a10 a11 a12 a13 a14 a15 a16 a17 a18 a19 a20 a21 a22 a23 a24 a25 a26 (ix2 r 0)
      = rate (fun k => a8 (ix1 k)) (fun k => a9 (ix1 k)) (fun k => a10 (ix1 k)) (fun k => a11 (ix1 k)) (fun k => a12 (ix1 k)) (fun k n => a13 (ix2 k n))
          (fun k => a14 (ix1 k)) (fun k => a15 (ix1 k)) (fun k => a16 (ix1 k)) (fun k => a17 (ix1 k)) (fun k => a18 (ix1 k)) (fun n p => a19 (ix2 n p))
          (fun k => a20 (ix1 k)) (fun k => a21 (ix1 k)) (fun k => a22 (ix1 k)) (fun k => a23 (ix1 k)) (fun k => a24 (ix1 k)) (fun p => a25 (ix2 p 0)) (a26 (ix1 0)) actR lastR
          (fun l => parts (fun k => a4 (ix2 (⟨(a0 (ix1 r)).toNat, h0⟩ : Fin 100000) k)) (fun k => a5 (ix2 (⟨(a1 (ix1 r)).toNat, h1⟩ : Fin 100000) k)) (a2 (ix1 r))
            (fun k => a6 (ix2 (⟨(a3 (ix1 r)).toNat, h3⟩ : Fin 7) k)) (fun k => a7 (ix2 k l))) := by
  unfold resOf rate parts
  rw [outR_at]
  simp only [layer2_at, layer1_at, layer0_at, input_sum, takeRow_at _ a0 r _ h0, takeRow_at _ a1 r _ h1, takeDay_at _ a3 r _ h3]
end

end Cert.Proof.RI

end
-- ==== Proof.Value.lean ====
/-
  The value: at exact numbers, where ids and days are in range and variances positive, the kernel's result is the reference's.
-/
module

public import proofs.«01_k».proof.Proof.Frames
public import proofs.«01_k».proof.Proof.Out
public import proofs.«01_k».proof.Proof.HostVals
public import proofs.«01_k».proof.Proof.Ref

@[expose] public section

set_option maxRecDepth 16384

noncomputable section

namespace Cert.Proof.Net

open Idealize.ShloMosaic

/-- The network of equal numbers. -/
theorem rate_congr {b0 b0' : Fin 1024 → EReal} {g0 g0' : Fin 1024 → EReal} {e0 e0' : Fin 1024 → EReal} {m0 m0' : Fin 1024 → EReal} {v0 v0' : Fin 1024 → EReal} {w1 w1' : Fin 1024 → Fin 512 → EReal} {b1 b1' : Fin 512 → EReal} {g1 g1' : Fin 512 → EReal} {e1 e1' : Fin 512 → EReal} {m1 m1' : Fin 512 → EReal} {v1 v1' : Fin 512 → EReal} {w2 w2' : Fin 512 → Fin 256 → EReal} {b2 b2' : Fin 256 → EReal} {g2 g2' : Fin 256 → EReal} {e2 e2' : Fin 256 → EReal} {m2 m2' : Fin 256 → EReal} {v2 v2' : Fin 256 → EReal} {wf wf' : Fin 256 → EReal}
    {bf bf' : EReal} {x x' : Fin 1024 → EReal} (a : EReal → EReal → EReal → EReal → EReal → EReal) (l : EReal → EReal)
    (hb0 : b0 = b0') (hg0 : g0 = g0') (he0 : e0 = e0') (hm0 : m0 = m0') (hv0 : v0 = v0') (hw1 : w1 = w1') (hb1 : b1 = b1') (hg1 : g1 = g1') (he1 : e1 = e1') (hm1 : m1 = m1') (hv1 : v1 = v1') (hw2 : w2 = w2') (hb2 : b2 = b2') (hg2 : g2 = g2') (he2 : e2 = e2') (hm2 : m2 = m2') (hv2 : v2 = v2') (hwf : wf = wf')
    (hbf : bf = bf') (hx : x = x') :
    rate b0 g0 e0 m0 v0 w1 b1 g1 e1 m1 v1 w2 b2 g2 e2 m2 v2 wf bf a l x = rate b0' g0' e0' m0' v0' w1' b1' g1' e1' m1' v1' w2' b2' g2' e2' m2' v2' wf' bf' a l x' := by
  subst_vars
  rfl

end Cert.Proof.Net

namespace Cert.Proof.KI

open Cert.KernelIdeal Cert.KernelIdeal.Gen
open Idealize.ShloMosaic Idealize.ShloMosaic.TcCoe
open Cert.Proof.Net

/-- The row of ones and zeros of a day is one at the day, -/
theorem hot_self (w : BitVec 32) (q : Fin 8) (h : w.toNat = q.val) : hot w q = 1 := by
  have e : w = BitVec.ofNat 32 q.val := by rw [← h]; simp
  unfold hot
  rw [← e]
  simp [IntOp.cmpi]

/-- and zero elsewhere. -/
theorem hot_other (w : BitVec 32) (p : Fin 8) (h : w.toNat ≠ p.val) : hot w p = 0 := by
  have e : w ≠ BitVec.ofNat 32 p.val := fun e => h (by rw [e]; simp; omega)
  have b : (w == BitVec.ofNat 32 p.val) = false := beq_eq_false_iff_ne.2 e
  unfold hot
  simp [IntOp.cmpi, b]

variable (m : (ℓ : Loc nD τ sig) → Buf (Elt Ideal) ℓ) (d : Dev nD)

/-- The kernel's result at a row whose ids and day are in range: the network on the product of the four parts with their weights. -/
theorem kernel_at (r : Fin 16384) (h0 : ((m (d, Proc.devRef .tc main_arg0) : IVec S16384 32) (ix1 r)).toNat < 100000)
    (h1 : ((m (d, Proc.devRef .tc main_arg1) : IVec S16384 32) (ix1 r)).toNat < 100000)
    (h3 : ((m (d, Proc.devRef .tc main_arg3) : IVec S16384 32) (ix1 r)).toNat < 7) :
    netOf (EB m d main_v2_0) (EB m d main_v2_1) (EB m d main_v15) (EB m d main_v16) (EB m d main_v3) (EB m d main_v4) (EB m d main_v5) (EB m d main_v14) (EB m d main_v9) (EB m d main_v17) (EB m d main_v18) (EB m d main_v19) (EB m d main_v20) (EB m d main_v21) (EB m d main_arg13) (EB m d main_v22) (EB m d main_v23) (EB m d main_v24) (EB m d main_v25) (EB m d main_v26) (EB m d main_arg19) (EB m d main_v27) (EB m d main_v28) (EB m d main_v29) (EB m d main_v30) (EB m d main_v31) (EB m d main_v32) (EB m d main_v33) (ix2 r 0)
      = rate (fun k => (m (d, Proc.devRef .tc main_arg8) : FVec Ideal S1024 .f32) (ix1 k)) (fun k => (m (d, Proc.devRef .tc main_arg9) : FVec Ideal S1024 .f32) (ix1 k)) (fun k => (m (d, Proc.devRef .tc main_arg10) : FVec Ideal S1024 .f32) (ix1 k)) (fun k => (m (d, Proc.devRef .tc main_arg11) : FVec Ideal S1024 .f32) (ix1 k)) (fun k => (m (d, Proc.devRef .tc main_arg12) : FVec Ideal S1024 .f32) (ix1 k))
          (fun k n => (m (d, Proc.devRef .tc main_arg13) : FVec Ideal S1024x512 .f32) (ix2 k n))
          (fun k => (m (d, Proc.devRef .tc main_arg14) : FVec Ideal S512 .f32) (ix1 k)) (fun k => (m (d, Proc.devRef .tc main_arg15) : FVec Ideal S512 .f32) (ix1 k)) (fun k => (m (d, Proc.devRef .tc main_arg16) : FVec Ideal S512 .f32) (ix1 k)) (fun k => (m (d, Proc.devRef .tc main_arg17) : FVec Ideal S512 .f32) (ix1 k)) (fun k => (m (d, Proc.devRef .tc main_arg18) : FVec Ideal S512 .f32) (ix1 k))
          (fun n p => (m (d, Proc.devRef .tc main_arg19) : FVec Ideal S512x256 .f32) (ix2 n p))
          (fun k => (m (d, Proc.devRef .tc main_arg20) : FVec Ideal S256 .f32) (ix1 k)) (fun k => (m (d, Proc.devRef .tc main_arg21) : FVec Ideal S256 .f32) (ix1 k)) (fun k => (m (d, Proc.devRef .tc main_arg22) : FVec Ideal S256 .f32) (ix1 k)) (fun k => (m (d, Proc.devRef .tc main_arg23) : FVec Ideal S256 .f32) (ix1 k)) (fun k => (m (d, Proc.devRef .tc main_arg24) : FVec Ideal S256 .f32) (ix1 k))
          (fun p => (m (d, Proc.devRef .tc main_arg25) : FVec Ideal S256x1 .f32) (ix2 p 0)) ((m (d, Proc.devRef .tc main_arg26) : FVec Ideal S1 .f32) (ix1 0)) act last
          (fun l => RI.parts (fun k => (m (d, Proc.devRef .tc main_arg4) : FVec Ideal S100000x128 .f32) (ix2 (⟨_, h0⟩ : Fin 100000) k))
            (fun k => (m (d, Proc.devRef .tc main_arg5) : FVec Ideal S100000x128 .f32) (ix2 (⟨_, h1⟩ : Fin 100000) k))
            ((m (d, Proc.devRef .tc main_arg2) : FVec Ideal S16384 .f32) (ix1 r))
            (fun k => (m (d, Proc.devRef .tc main_arg6) : FVec Ideal S7x4 .f32) (ix2 (⟨_, h3⟩ : Fin 7) k))
            (fun k => (m (d, Proc.devRef .tc main_arg7) : FVec Ideal S261x1024 .f32) (ix2 k l))) := by
  unfold netOf
  refine rate_congr act last
    (funext (v17_at m d))
    (funext (v18_at m d))
    (funext (v19_at m d))
    (funext (v20_at m d))
    (funext (v21_at m d))
    (funext fun k => funext fun n => congrFun (VB_kept m d main_arg13 kept13) (ix2 k n))
    (funext (v22_at m d))
    (funext (v23_at m d))
    (funext (v24_at m d))
    (funext (v25_at m d))
    (funext (v26_at m d))
    (funext fun n => funext fun p => congrFun (VB_kept m d main_arg19 kept19) (ix2 n p))
    (funext (v27_at m d))
    (funext (v28_at m d))
    (funext (v29_at m d))
    (funext (v30_at m d))
    (funext (v31_at m d))
    (funext (v32_at m d))
    (v33_at m d) (funext fun l => ?_)
  unfold first RI.parts
  refine congrArg₂ (· + ·) (congrArg₂ (· + ·) (congrArg₂ (· + ·) ?_ ?_) ?_) ?_
  · exact Finset.sum_congr rfl fun k _ => congrArg₂ (· * ·) (v2_0_at m d r k h0) (v3_at m d k l)
  · exact Finset.sum_congr rfl fun k _ => congrArg₂ (· * ·) (v2_1_at m d r k h1) (v4_at m d k l)
  · exact congrArg₂ (· * ·) (v15_at m d r) (v5_at m d l)
  · have hw : hot ((EB m d main_v16 : IVec S16384x1 32) (ix2 r 0)) = hot ((m (d, Proc.devRef .tc main_arg3) : IVec S16384 32) (ix1 r)) :=
      congrArg hot (v16_at m d r)
    have h8 : ((m (d, Proc.devRef .tc main_arg3) : IVec S16384 32) (ix1 r)).toNat < 8 := Nat.lt_succ_of_lt h3
    refine (day_part _ _ _ (⟨_, h8⟩ : Fin 8) ((congrFun hw _).trans (hot_self _ _ rfl))
      (fun p hp => (congrFun hw _).trans (hot_other _ p fun e => hp (Fin.ext e.symm))) (fun k hk => v9_zero m d k hk l)).trans ?_
    exact Finset.sum_congr rfl fun k _ => congrArg₂ (· * ·) (v14_at m d _ h3 _ k.isLt) (v9_at m d _ k.isLt l)

end Cert.Proof.KI

namespace Cert.Proof

open Idealize.ShloMosaic Idealize.SL.Sem
open Cert.Proof.Net

/-- The reference's result, on the kernel's arguments, is the array that the kernel leaves. -/
theorem value_eq (m : (ℓ : Loc Cert.KernelIdeal.nD Cert.KernelIdeal.τ Cert.KernelIdeal.sig) → Buf (Elt Ideal) ℓ)
    (hpre : Cert.Pre_KernelIdeal_ids_and_variances (hPre_ids_and_variances := Pre.factsVar) m) (c : Dev Cert.KernelIdeal.nD) :
    RI.resOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))
      = (KI.dat (KI.EB m) c).arrAt (28 : Fin 29) Cert.KernelIdeal.cfg1.N := by
  letI := Pre.factsVar
  refine Eq.trans ?_ (KI.final (KI.EB m) c).symm
  funext i
  have hi : i = ix2 (i 0) (0 : Fin 1) := (eq_ix2 i).trans (congrArg (ix2 (i 0)) (Subsingleton.elim (α := Fin 1) _ _))
  rw [hi]
  have h0 := Pre.users_in' _ _ _ _ _ _ _ _ _ _ _ _ _ _ _ _ _ _ _ _ _ _ _ _ _ _ _ (hpre c).1 (ix1 (i 0))
  have h1 := Pre.items_in' _ _ _ _ _ _ _ _ _ _ _ _ _ _ _ _ _ _ _ _ _ _ _ _ _ _ _ (hpre c).2.1 (ix1 (i 0))
  have h3 := Pre.days_in' _ _ _ _ _ _ _ _ _ _ _ _ _ _ _ _ _ _ _ _ _ _ _ _ _ _ _ (hpre c).2.2.1 (ix1 (i 0))
  refine (RI.resOf_at _ _ _ _ _ _ _ _ _ _ _ _ _ _ _ _ _ _ _ _ _ _ _ _ _ _ _ (i 0) h0 h1 h3).trans ?_
  refine (rate_eq _ _ _ _ _ _ _ _ _ _ _ _ _ _ _ _ _ _ _ _
    (fun k => Pre.var0_pos _ _ _ _ _ _ _ _ _ _ _ _ _ _ _ _ _ _ _ _ _ _ _ _ _ _ _ (hpre c).2.2.2.1 (ix1 k))
    (fun k => Pre.var1_pos _ _ _ _ _ _ _ _ _ _ _ _ _ _ _ _ _ _ _ _ _ _ _ _ _ _ _ (hpre c).2.2.2.2.1 (ix1 k))
    (fun k => Pre.var2_pos _ _ _ _ _ _ _ _ _ _ _ _ _ _ _ _ _ _ _ _ _ _ _ _ _ _ _ (hpre c).2.2.2.2.2 (ix1 k))).trans ?_
  exact (KI.kernel_at m c (i 0) h0 h1 h3).symm

/-- The kernel's value is the reference's. -/
theorem algebraic : Cert.algebraic_KernelIdeal_ReferenceIdeal_pre_ids_and_variances (hPre_ids_and_variances := Pre.factsVar) := by
  intro m g m' g' hpre hag
  refine ⟨fun c => (KI.dat (KI.EB m) c).arrAt (28 : Fin 29) Cert.KernelIdeal.cfg1.N,
    (θ_run Cert.KernelIdeal.defs _ _).mono (fun _ h c => h.1 c) (KI.run_args (F := Ideal) m g (ideal_inRows m hpre)),
    (θ_run Cert.ReferenceIdeal.defs _ _).mono (fun _ h c => ⟨((h c).1).trans ?_, (h c).2⟩) (Cert.ReferenceIdeal.Value.run (F := Ideal) m' g')⟩
  obtain ⟨e0, e1, e2, e3, e4, e5, e6, e7, e8, e9, e10, e11, e12, e13, e14, e15, e16, e17, e18, e19, e20, e21, e22, e23, e24, e25, e26⟩ := hag c
  refine Eq.trans ?_ (value_eq m hpre c)
  refine (RI.res_eq m' c).trans ?_
  rw [e0, e1, e2, e3, e4, e5, e6, e7, e8, e9, e10, e11, e12, e13, e14, e15, e16, e17, e18, e19, e20, e21, e22, e23, e24, e25, e26]

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Value

@[expose] public section

noncomputable section

namespace Cert.Proof

/-- Everything the certificate claims. -/
theorem claim : Cert.Claim :=
  ⟨Cert.Kernel.Gen.facts, Cert.KernelIdeal.Gen.facts, Cert.ReferenceIdeal.Gen.facts, Pre.factsRange, Pre.factsVar,
    frame_kernel, frame_ideal, frame_ideal', frame_ref, frame_ref', trivial, algebraic⟩

end Cert.Proof

end
